-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x1x1024 : Shape := ⟨3, ![1, 1, 1024]⟩
abbrev S16x4096x1024 : Shape := ⟨3, ![16, 4096, 1024]⟩
abbrev S1024 : Shape := ⟨1, ![1024]⟩
abbrev S1024x1024 : Shape := ⟨2, ![1024, 1024]⟩
abbrev S2048x1024 : Shape := ⟨2, ![2048, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_v29 : IVec S_ 1) (main_v32 : IVec S2048x1024 1) (main_c_12 : IVec S_ 1) : IVec S_ 1 :=
  let main_v33 : IVec S_ 1 := (fun x v => Host.reduce IntOp.andi x v reducesTo_S2048x1024_S_d0_1 h_S_) main_v32 main_c_12
  let main_v34 : IVec S_ 1 := andi main_v29 main_v33
  main_v34

def fn_part1 {F : FTy → Type} [FloatOps F] (main_arg5 : FVec F S1024 .f32) (main_arg6 : FVec F S1024 .f32) (main_arg7 : FVec F S2048x1024 .f32) (main_v14 : IVec S_ 1) (main_v15 : FVec F S1024x1024 .f32) (main_cst_5 : FVec F S_ .f32) : IVec S_ 1 :=
  let main_v16 : FVec F S1024x1024 .f32 := broadcastInDim S1024x1024 ![] bcast_S_S1024x1024 main_cst_5
  let main_v17 : IVec S1024x1024 1 := cmpf .olt main_v15 main_v16
  let main_c_6 : IVec S_ 1 := constantI S_ 1 1#1
  let main_v18 : IVec S_ 1 := (fun x v => Host.reduce IntOp.andi x v reducesTo_S1024x1024_S_d0_1 h_S_) main_v17 main_c_6
  let main_v19 : IVec S_ 1 := andi main_v14 main_v18
  let main_v20 : FVec F S1024 .f32 := Host.absf main_arg5
  let main_cst_7 : FVec F S_ .f32 := constant S_ .f32 0x7F800000#32
  let main_v21 : FVec F S1024 .f32 := broadcastInDim S1024 ![] bcast_S_S1024 main_cst_7
  let main_v22 : IVec S1024 1 := cmpf .olt main_v20 main_v21
  let main_c_8 : IVec S_ 1 := constantI S_ 1 1#1
  let main_v23 : IVec S_ 1 := (fun x v => Host.reduce IntOp.andi x v reducesTo_S1024_S_d0 h_S_) main_v22 main_c_8
  let main_v24 : IVec S_ 1 := andi main_v19 main_v23
  let main_v25 : FVec F S1024 .f32 := Host.absf main_arg6
  let main_cst_9 : FVec F S_ .f32 := constant S_ .f32 0x7F800000#32
  let main_v26 : FVec F S1024 .f32 := broadcastInDim S1024 ![] bcast_S_S1024 main_cst_9
  let main_v27 : IVec S1024 1 := cmpf .olt main_v25 main_v26
  let main_c_10 : IVec S_ 1 := constantI S_ 1 1#1
  let main_v28 : IVec S_ 1 := (fun x v => Host.reduce IntOp.andi x v reducesTo_S1024_S_d0 h_S_) main_v27 main_c_10
  let main_v29 : IVec S_ 1 := andi main_v24 main_v28
  let main_v30 : FVec F S2048x1024 .f32 := Host.absf main_arg7
  let main_cst_11 : FVec F S_ .f32 := constant S_ .f32 0x7F800000#32
  let main_v31 : FVec F S2048x1024 .f32 := broadcastInDim S2048x1024 ![] bcast_S_S2048x1024 main_cst_11
  let main_v32 : IVec S2048x1024 1 := cmpf .olt main_v30 main_v31
  let main_c_12 : IVec S_ 1 := constantI S_ 1 1#1
  fn_part2 (F := F) main_v29 main_v32 main_c_12

def fn {F : FTy → Type} [FloatOps F] (main_arg0 : FVec F S1x1x1024 .f32) (main_arg1 : FVec F S16x4096x1024 .f32) (main_arg2 : FVec F S1024 .f32) (main_arg3 : FVec F S1024 .f32) (main_arg4 : FVec F S1024x1024 .f32) (main_arg5 : FVec F S1024 .f32) (main_arg6 : FVec F S1024 .f32) (main_arg7 : FVec F S2048x1024 .f32) (main_arg8 : FVec F S1024x1024 .f32) (main_arg9 : FVec F S1024 .f32) : IVec S_ 1 :=
  let main_v0 : FVec F S16x4096x1024 .f32 := Host.absf main_arg1
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_c_0 : IVec S_ 1 := constantI S_ 1 1#1
  let main_v4 : IVec S_ 1 := andi main_c_0 main_v3
  let main_v5 : FVec F S1024 .f32 := Host.absf main_arg2
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024 .f32 := Host.absf main_arg3
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_v15 : FVec F S1024x1024 .f32 := Host.absf main_arg4
  let main_cst_5 : FVec F S_ .f32 := constant S_ .f32 0x7F800000#32
  fn_part1 (F := F) main_arg5 main_arg6 main_arg7 main_v14 main_v15 main_cst_5
-- ==== Kernel.lean ====
abbrev S1x1x1024 : Shape := ⟨3, ![1, 1, 1024]⟩
abbrev S16x4096x1024 : Shape := ⟨3, ![16, 4096, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S16x1x1024 : Shape := ⟨3, ![16, 1, 1024]⟩
abbrev S1x512x1024 : Shape := ⟨3, ![1, 512, 1024]⟩
abbrev S16x1024 : Shape := ⟨2, ![16, 1024]⟩
abbrev S8x1024 : Shape := ⟨2, ![8, 1024]⟩
abbrev S8x1 : Shape := ⟨2, ![8, 1]⟩
abbrev S1 : Shape := ⟨1, ![1]⟩
abbrev S1x1 : Shape := ⟨2, ![1, 1]⟩
abbrev S8 : Shape := ⟨1, ![8]⟩
abbrev S512x1024 : Shape := ⟨2, ![512, 1024]⟩
abbrev S16x512 : Shape := ⟨2, ![16, 512]⟩
abbrev S1x512 : Shape := ⟨2, ![1, 512]⟩
abbrev S8x512 : Shape := ⟨2, ![8, 512]⟩

abbrev nBuf : Space → Nat
  | .hbm => 19
  | .vmem => 21
  | .smem => 0
  | _ => 0

abbrev bufTy : (tb : Table) → Fin (tcTables nBuf tb) → BufTy
  | .hbm, ⟨0, _⟩ => ⟨S1x1x1024, .f32⟩
  | .hbm, ⟨1, _⟩ => ⟨S16x4096x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S1024x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x1024, .f32⟩
  | .hbm, ⟨17, _⟩ => ⟨S1024x1024, .f32⟩
  | .hbm, ⟨18, _⟩ => ⟨S16x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S16x1024, .f32⟩
  | .local _ .vmem, ⟨15, _⟩ => ⟨S8x1024, .f32⟩
  | .local _ .vmem, ⟨16, _⟩ => ⟨S8x1, .f32⟩
  | .local _ .vmem, ⟨17, _⟩ => ⟨S8x1, .f32⟩
  | .local _ .vmem, ⟨18, _⟩ => ⟨S8x1, .f32⟩
  | .local _ .vmem, ⟨19, _⟩ => ⟨S8x1, .f32⟩
  | .local _ .vmem, ⟨20, _⟩ => ⟨S8x1, .f32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v101 : BitVec 1 := Scalar.cmpi .eq arg1 c7_i32
  let v102 : BitVec 32 := Scalar.extui v101
  let c0_i32_41 : BitVec 32 := 0#32
  let v103 : BitVec 1 := Scalar.cmpi .ne v102 c0_i32_41
  v103

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S1x1x1024 : Shape := ⟨3, ![1, 1, 1024]⟩
abbrev S16x4096x1024 : Shape := ⟨3, ![16, 4096, 1024]⟩
abbrev S1024 : Shape := ⟨1, ![1024]⟩
abbrev S1024x1024 : Shape := ⟨2, ![1024, 1024]⟩
abbrev S2048x1024 : Shape := ⟨2, ![2048, 1024]⟩
abbrev S16x1x1024 : Shape := ⟨3, ![16, 1, 1024]⟩
abbrev S_ : Shape := ⟨0, ![]⟩
abbrev S16x1 : Shape := ⟨2, ![16, 1]⟩
abbrev S16x1x1 : Shape := ⟨3, ![16, 1, 1]⟩
abbrev S16x8x128 : Shape := ⟨3, ![16, 8, 128]⟩
abbrev S16x4096 : Shape := ⟨2, ![16, 4096]⟩
abbrev S16x4096x1 : Shape := ⟨3, ![16, 4096, 1]⟩
abbrev S1024x2048 : Shape := ⟨2, ![1024, 2048]⟩
abbrev S16x4096x2048 : Shape := ⟨3, ![16, 4096, 2048]⟩
abbrev S16x4096x2x8x128 : Shape := ⟨5, ![16, 4096, 2, 8, 128]⟩
abbrev S16x4096x1x8x128 : Shape := ⟨5, ![16, 4096, 1, 8, 128]⟩
abbrev S16x4096x8x128 : Shape := ⟨4, ![16, 4096, 8, 128]⟩
abbrev S16x8x4096 : Shape := ⟨3, ![16, 8, 4096]⟩
abbrev S16x8 : Shape := ⟨2, ![16, 8]⟩
abbrev S16x8x1 : Shape := ⟨3, ![16, 8, 1]⟩

abbrev nBuf : Space → Nat
  | .hbm => 105
  | .vmem => 0
  | .smem => 0
  | _ => 0

abbrev bufTy : (tb : Table) → Fin (tcTables nBuf tb) → BufTy
  | .hbm, ⟨0, _⟩ => ⟨S1x1x1024, .f32⟩
  | .hbm, ⟨1, _⟩ => ⟨S16x4096x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S1024x1024, .f32⟩
  | .hbm, ⟨9, _⟩ => ⟨S1024, .f32⟩
  | .hbm, ⟨10, _⟩ => ⟨S16x1x1024, .f32⟩
  | .hbm, ⟨11, _⟩ => ⟨S_, .f32⟩
  | .hbm, ⟨12, _⟩ => ⟨S16x1, .f32⟩
  | .hbm, ⟨13, _⟩ => ⟨S16x1x1, .f32⟩
  | .hbm, ⟨14, _⟩ => ⟨S_, .f32⟩
  | .hbm, ⟨15, _⟩ => ⟨S16x1x1, .f32⟩
  | .hbm, ⟨16, _⟩ => ⟨S16x1x1, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S_, .f32⟩
  | .hbm, ⟨21, _⟩ => ⟨S16x1, .f32⟩
  | .hbm, ⟨22, _⟩ => ⟨S16x1x1, .f32⟩
  | .hbm, ⟨23, _⟩ => ⟨S_, .f32⟩
  | .hbm, ⟨24, _⟩ => ⟨S16x1x1, .f32⟩
  | .hbm, ⟨25, _⟩ => ⟨S16x1x1, .f32⟩
  | .hbm, ⟨26, _⟩ => ⟨S16x1x1024, .f32⟩
  | .hbm, ⟨27, _⟩ => ⟨S16x1x1024, .f32⟩
  | .hbm, ⟨28, _⟩ => ⟨S_, .f32⟩
  | .hbm, ⟨29, _⟩ => ⟨S16x1x1, .f32⟩
  | .hbm, ⟨30, _⟩ => ⟨S16x1x1, .f32⟩
  | .hbm, ⟨31, _⟩ => ⟨S16x1x1, .f32⟩
  | .hbm, ⟨32, _⟩ => ⟨S16x1x1024, .f32⟩
  | .hbm, ⟨33, _⟩ => ⟨S16x1x1024, .f32⟩
  | .hbm, ⟨34, _⟩ => ⟨S1x1x1024, .f32⟩
  | .hbm, ⟨35, _⟩ => ⟨S16x1x1024, .f32⟩
  | .hbm, ⟨36, _⟩ => ⟨S16x1x1024, .f32⟩
  | .hbm, ⟨37, _⟩ => ⟨S1x1x1024, .f32⟩
  | .hbm, ⟨38, _⟩ => ⟨S16x1x1024, .f32⟩
  | .hbm, ⟨39, _⟩ => ⟨S16x1x1024, .f32⟩
  | .hbm, ⟨40, _⟩ => ⟨S1024x1024, .f32⟩
  | .hbm, ⟨41, _⟩ => ⟨S16x1x1024, .f32⟩
  | .hbm, ⟨42, _⟩ => ⟨S16x8x128, .f32⟩
  | .hbm, ⟨43, _⟩ => ⟨S_, .f32⟩
  | .hbm, ⟨44, _⟩ => ⟨S16x4096, .f32⟩
  | .hbm, ⟨45, _⟩ => ⟨S16x4096x1, .f32⟩
  | .hbm, ⟨46, _⟩ => ⟨S_, .f32⟩
  | .hbm, ⟨47, _⟩ => ⟨S16x4096x1, .f32⟩
  | .hbm, ⟨48, _⟩ => ⟨S16x4096x1, .f32⟩
  | .hbm, ⟨49, _⟩ => ⟨S16x4096x1024, .f32⟩
  | .hbm, ⟨50, _⟩ => ⟨S16x4096x1024, .f32⟩
  | .hbm, ⟨51, _⟩ => ⟨S16x4096x1024, .f32⟩
  | .hbm, ⟨52, _⟩ => ⟨S_, .f32⟩
  | .hbm, ⟨53, _⟩ => ⟨S16x4096, .f32⟩
  | .hbm, ⟨54, _⟩ => ⟨S16x4096x1, .f32⟩
  | .hbm, ⟨55, _⟩ => ⟨S_, .f32⟩
  | .hbm, ⟨56, _⟩ => ⟨S16x4096x1, .f32⟩
  | .hbm, ⟨57, _⟩ => ⟨S16x4096x1, .f32⟩
  | .hbm, ⟨58, _⟩ => ⟨S16x4096x1024, .f32⟩
  | .hbm, ⟨59, _⟩ => ⟨S16x4096x1024, .f32⟩
  | .hbm, ⟨60, _⟩ => ⟨S_, .f32⟩
  | .hbm, ⟨61, _⟩ => ⟨S16x4096x1, .f32⟩
  | .hbm, ⟨62, _⟩ => ⟨S16x4096x1, .f32⟩
  | .hbm, ⟨63, _⟩ => ⟨S16x4096x1, .f32⟩
  | .hbm, ⟨64, _⟩ => ⟨S16x4096x1024, .f32⟩
  | .hbm, ⟨65, _⟩ => ⟨S16x4096x1024, .f32⟩
  | .hbm, ⟨66, _⟩ => ⟨S1x1x1024, .f32⟩
  | .hbm, ⟨67, _⟩ => ⟨S16x4096x1024, .f32⟩
  | .hbm, ⟨68, _⟩ => ⟨S16x4096x1024, .f32⟩
  | .hbm, ⟨69, _⟩ => ⟨S1x1x1024, .f32⟩
  | .hbm, ⟨70, _⟩ => ⟨S16x4096x1024, .f32⟩
  | .hbm, ⟨71, _⟩ => ⟨S16x4096x1024, .f32⟩
  | .hbm, ⟨72, _⟩ => ⟨S1024x2048, .f32⟩
  | .hbm, ⟨73, _⟩ => ⟨S16x4096x2048, .f32⟩
  | .hbm, ⟨74, _⟩ => ⟨S16x4096x2x8x128, .f32⟩
  | .hbm, ⟨75, _⟩ => ⟨S16x4096x1x8x128, .f32⟩
  | .hbm, ⟨76, _⟩ => ⟨S16x4096x8x128, .f32⟩
  | .hbm, ⟨77, _⟩ => ⟨S16x4096x1x8x128, .f32⟩
  | .hbm, ⟨78, _⟩ => ⟨S16x4096x8x128, .f32⟩
  | .hbm, ⟨79, _⟩ => ⟨S_, .f32⟩
  | .hbm, ⟨80, _⟩ => ⟨S16x8x128, .f32⟩
  | .hbm, ⟨81, _⟩ => ⟨S16x8x128, .f32⟩
  | .hbm, ⟨82, _⟩ => ⟨S16x8x4096, .f32⟩
  | .hbm, ⟨83, _⟩ => ⟨S_, .f32⟩
  | .hbm, ⟨84, _⟩ => ⟨S16x8, .f32⟩
  | .hbm, ⟨85, _⟩ => ⟨S_, .f32⟩
  | .hbm, ⟨86, _⟩ => ⟨S16x8, .f32⟩
  | .hbm, ⟨87, _⟩ => ⟨S16x8, .f32⟩
  | .hbm, ⟨88, _⟩ => ⟨S16x8x1, .f32⟩
  | .hbm, ⟨89, _⟩ => ⟨S16x8x4096, .f32⟩
  | .hbm, ⟨90, _⟩ => ⟨S16x8x4096, .f32⟩
  | .hbm, ⟨91, _⟩ => ⟨S16x8x4096, .f32⟩
  | .hbm, ⟨92, _⟩ => ⟨S_, .f32⟩
  | .hbm, ⟨93, _⟩ => ⟨S16x8, .f32⟩
  | .hbm, ⟨94, _⟩ => ⟨S16x8x1, .f32⟩
  | .hbm, ⟨95, _⟩ => ⟨S16x8x4096, .f32⟩
  | .hbm, ⟨96, _⟩ => ⟨S16x8x4096, .f32⟩
  | .hbm, ⟨97, _⟩ => ⟨S16x8x128, .f32⟩
  | .hbm, ⟨98, _⟩ => ⟨S16x1x1024, .f32⟩
  | .hbm, ⟨99, _⟩ => ⟨S1024x1024, .f32⟩
  | .hbm, ⟨100, _⟩ => ⟨S16x1x1024, .f32⟩
  | .hbm, ⟨101, _⟩ => ⟨S16x1x1024, .f32⟩
  | .hbm, ⟨102, _⟩ => ⟨S1x1x1024, .f32⟩
  | .hbm, ⟨103, _⟩ => ⟨S16x1x1024, .f32⟩
  | .hbm, ⟨104, _⟩ => ⟨S16x1x1024, .f32⟩
  | _, _ => ⟨S1x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Proof.Words.lean ====
/-
  The constants of the two programs as extended reals, and the operations on extended reals that are real numbers:
  a sum, a quotient, a reciprocal root and a maximum of real numbers is a real number again.
-/
module

public import Idealize.ShloMosaic.Lib.Pointwise
public import Idealize.ShloMosaic.Lib.IdealHost

@[expose] public section

set_option maxRecDepth 16384

noncomputable section

namespace Cert.Words

open Idealize.ShloMosaic

/-- The word `0x44800000` is 1024. -/
theorem w1024 : Ideal.ofBits .f32 0x44800000#32 = ((1024 : ℝ) : EReal) := by
  simp [Ideal.ofBits, Ideal.ieee, -EReal.coe_mul]; norm_num

/-- The word `0x3A800000` is 1/1024. -/
theorem wInv : Ideal.ofBits .f32 0x3A800000#32 = ((1 / 1024 : ℝ) : EReal) := by
  simp [Ideal.ofBits, Ideal.ieee, -EReal.coe_mul]; norm_num

/-- The word `0x3D000000` is 1/32. -/
theorem wScale : Ideal.ofBits .f32 0x3D000000#32 = ((1 / 32 : ℝ) : EReal) := by
  simp [Ideal.ofBits, Ideal.ieee, -EReal.coe_mul]; norm_num

/-- The word `0xFF800000` is minus infinity. -/
theorem wBot : Ideal.ofBits .f32 0xFF800000#32 = (⊥ : EReal) := by
  simp [Ideal.ofBits, Ideal.ieee]

/-- The word `0x7F800000` is plus infinity. -/
theorem wTop : Ideal.ofBits .f32 0x7F800000#32 = (⊤ : EReal) := by
  simp [Ideal.ofBits, Ideal.ieee]

/-- The real number the layer norms add to a variance. -/
def eps : ℝ := (Ideal.ofBits .f32 0x3727C5AC#32).toReal

theorem eps_eq : Ideal.ofBits .f32 0x3727C5AC#32 = ((10995116 / 2 ^ 40 : ℝ) : EReal) := by
  simp [Ideal.ofBits, Ideal.ieee, -EReal.coe_mul]; norm_num

/-- The word `0x3727C5AC` is `eps`. -/
theorem wEps : Ideal.ofBits .f32 0x3727C5AC#32 = (eps : EReal) := by
  rw [eps, eps_eq, EReal.toReal_coe]

theorem eps_pos : 0 < eps := by
  rw [eps, eps_eq, EReal.toReal_coe]; norm_num

/-- The real number that the running maximum starts from. -/
def low : ℝ := (Ideal.ofBits .f32 0xF149F2CA#32).toReal

/-- The word `0xF149F2CA` is a real number. -/
theorem wLow : Ideal.ofBits .f32 0xF149F2CA#32 = (low : EReal) := by
  have h : ∃ r : ℝ, Ideal.ofBits .f32 0xF149F2CA#32 = (r : EReal) := by
    refine ⟨-(13234890 * 2 ^ 76), ?_⟩
    simp [Ideal.ofBits, Ideal.ieee, -EReal.coe_mul, -EReal.coe_neg]
  obtain ⟨r, h⟩ := h
  rw [low, h, EReal.toReal_coe]

/-- A sum of real numbers, taken among the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of real numbers by one that is not zero is the real quotient. -/
theorem coe_div {x y : ℝ} (h : y ≠ 0) : Ideal.div (x : EReal) (y : EReal) = ((x / y : ℝ) : EReal) := by
  rw [Ideal.div_coe h, ← EReal.coe_mul, mul_one_div]

/-- The reciprocal root of a positive real number is the real one. -/
theorem coe_rsqrt {x : ℝ} (h : 0 < x) : Ideal.rsqrt (x : EReal) = (((√x)⁻¹ : ℝ) : EReal) := by
  rw [Ideal.rsqrt_coe, if_neg (not_lt.mpr h.le), if_neg h.ne']

/-- The maximum of two real numbers is the real maximum. -/
theorem coe_max (x y : ℝ) : max (x : EReal) (y : EReal) = ((max x y : ℝ) : EReal) :=
  (EReal.coe_strictMono.monotone.map_max).symm

/-- A maximum of finitely many real numbers, from minus infinity, is below plus infinity. -/
theorem fold_max_lt_top {ι : Type} (s : Finset ι) (f : ι → ℝ) : s.fold max (⊥ : EReal) (fun i => (f i : EReal)) < ⊤ := by
  classical
  induction s using Finset.induction_on with
  | empty => simp
  | insert a s ha ih => rw [Finset.fold_insert ha]; exact max_lt (EReal.coe_lt_top _) ih

/-- … and at least each of them. -/
theorem le_fold_max {ι : Type} (s : Finset ι) (f : ι → EReal) (i : ι) (hi : i ∈ s) : f i ≤ s.fold max (⊥ : EReal) f :=
  (Finset.le_fold_max (f i)).mpr (.inr ⟨i, hi, le_rfl⟩)

/-- The maximum of a real number and finitely many others is a real number. -/
theorem max_fold_real {ι : Type} (s : Finset ι) (f : ι → ℝ) (r : ℝ) :
    ∃ q : ℝ, max (r : EReal) (s.fold max (⊥ : EReal) (fun i => (f i : EReal))) = (q : EReal) := by
  have ht := max_lt (EReal.coe_lt_top r) (fold_max_lt_top s f)
  have hb := lt_of_lt_of_le (EReal.bot_lt_coe r) (le_max_left (r : EReal) (s.fold max (⊥ : EReal) (fun i => (f i : EReal))))
  exact ⟨_, (EReal.coe_toReal ht.ne hb.ne').symm⟩

/-- The maximum of finitely many real numbers, at least one, is a real number. -/
theorem fold_real {ι : Type} (s : Finset ι) (f : ι → ℝ) (i : ι) (hi : i ∈ s) :
    ∃ q : ℝ, s.fold max (⊥ : EReal) (fun i => (f i : EReal)) = (q : EReal) := by
  have ht := fold_max_lt_top s f
  have hb := lt_of_lt_of_le (EReal.bot_lt_coe (f i)) (le_fold_max s (fun i => (f i : EReal)) i hi)
  exact ⟨_, (EReal.coe_toReal ht.ne hb.ne').symm⟩

/-- An extended real whose absolute value is below plus infinity is a real number. -/
theorem real_of_abs_lt {x : EReal} (h : max x (-x) < ⊤) : x = (x.toReal : EReal) := by
  refine (EReal.coe_toReal ?_ ?_).symm
  · exact ((le_max_left _ _).trans_lt h).ne
  · rintro rfl; simp at h

end Cert.Words

end
-- ==== Proof.Pool.lean ====
/-
  The mathematics over the real numbers: a layer norm whose variance is taken as the mean square minus the squared mean,
  a head's scores with the layer norm's scale and shift moved out of the sum, a softmax whose weights are gathered block
  by block over a running maximum, and the weighted mean of the values taken before the value projection.
-/
module

public import Idealize.ShloMosaic.Lib.IdealHost

@[expose] public section

noncomputable section

namespace Cert.Pool

/-- The mean of a row. -/
def mean (x : Fin 1024 → ℝ) : ℝ := (∑ c, x c) / 1024

/-- The variance of a row: the mean of the squared differences from the mean. -/
def var (x : Fin 1024 → ℝ) : ℝ := (∑ c, (x c - mean x) * (x c - mean x)) / 1024

/-- The reciprocal root of a row's variance and `e`. -/
def inv (e : ℝ) (x : Fin 1024 → ℝ) : ℝ := (√(var x + e))⁻¹

/-- The layer norm of a row with the scale `g` and the shift `b`. -/
def ln (e : ℝ) (g b x : Fin 1024 → ℝ) (c : Fin 1024) : ℝ := (x c - mean x) * inv e x * g c + b c

theorem mean_def (x : Fin 1024 → ℝ) : (∑ c, x c) / 1024 = mean x := rfl

theorem var_def (x : Fin 1024 → ℝ) : (∑ c, (x c - mean x) * (x c - mean x)) / 1024 = var x := rfl

theorem var_nonneg (x : Fin 1024 → ℝ) : 0 ≤ var x :=
  div_nonneg (Finset.sum_nonneg fun c _ => mul_self_nonneg _) (by norm_num)

/-- The variance is the mean square minus the squared mean. -/
theorem var_eq (x : Fin 1024 → ℝ) : (∑ c, x c * x c) * (1 / 1024) - mean x * mean x = var x := by
  have h : ∑ c, (x c - mean x) * (x c - mean x) = (∑ c, x c * x c) - 2 * mean x * (∑ c, x c) + 1024 * (mean x * mean x) := by
    have : ∀ c, (x c - mean x) * (x c - mean x) = x c * x c - 2 * mean x * x c + mean x * mean x := fun c => by ring
    simp only [this, Finset.sum_add_distrib, Finset.sum_sub_distrib, ← Finset.mul_sum, Finset.sum_const, Finset.card_univ,
      Fintype.card_fin, nsmul_eq_mul]
    push_cast; ring
  have hs : ∑ c, x c = 1024 * mean x := by unfold mean; ring
  rw [var, h, hs]; ring

/-- Column `r` of 1024 lies in head `h` of 8: its number over 128 is `h`. -/
def mask (h : Fin 8) (r : Fin 1024) : ℝ := if r.val / 128 = h.val then 1 else 0

/-- The column of head `h` at place `d`. -/
def col (h : Fin 8) (d : Fin 128) : Fin 1024 := ⟨h.val * 128 + d.val, by omega⟩

/-- A sum over the columns that the mask of head `h` keeps is the sum over the head's 128 columns. -/
theorem sum_mask (h : Fin 8) (f : Fin 1024 → ℝ) : ∑ r, f r * mask h r = ∑ d, f (col h d) := by
  simp only [mask, mul_ite, mul_one, mul_zero]
  rw [← Finset.sum_filter]
  symm
  refine Finset.sum_bij (fun d _ => col h d) (fun d _ => ?_) (fun a _ b _ hab => ?_) (fun r hr => ?_) (fun _ _ => rfl)
  · simp [col]; omega
  · have := congrArg Fin.val hab; simp only [col] at this; ext; omega
  · simp only [Finset.mem_filter, Finset.mem_univ, true_and] at hr
    exact ⟨⟨r.val % 128, by omega⟩, Finset.mem_univ _, by ext; simp only [col]; omega⟩

/-- The head of column `r`. -/
def head (r : Fin 1024) : Fin 8 := ⟨r.val / 128, by omega⟩

/-- The sum over the heads that the masks at column `r` keep is the term at the column's own head. -/
theorem sum_head (r : Fin 1024) (f : Fin 8 → ℝ) : ∑ h, f h * mask h r = f (head r) := by
  rw [Finset.sum_eq_single (head r)]
  · simp [mask, head]
  · intro h _ hne
    have : ¬r.val / 128 = h.val := fun e => hne (by ext; simp [head, e])
    simp [mask, this]
  · simp

/-- The weights of head `h` over the columns of the normalized row: the head's part of the scaled query `q` times the key
    projection. -/
def wl (q : Fin 1024 → ℝ) (Wk : Fin 1024 → Fin 1024 → ℝ) (h : Fin 8) (c : Fin 1024) : ℝ := ∑ r, (q r * mask h r) * Wk r c

/-- A head's score of a row as the reference computes it: the head's query times the key of the normalized row. -/
def score (e : ℝ) (g b : Fin 1024 → ℝ) (q : Fin 1024 → ℝ) (Wk : Fin 1024 → Fin 1024 → ℝ) (h : Fin 8) (x : Fin 1024 → ℝ) : ℝ :=
  ∑ d, q (col h d) * ∑ c, ln e g b x c * Wk (col h d) c

/-- The score as the kernel computes it: the scale `1/√(var + e)` and the mean taken out of the sum over the columns. -/
theorem score_eq (e : ℝ) (g b : Fin 1024 → ℝ) (q : Fin 1024 → ℝ) (Wk : Fin 1024 → Fin 1024 → ℝ) (h : Fin 8)
    (x : Fin 1024 → ℝ) :
    inv e x * ((∑ c, (wl q Wk h c * g c) * x c) - mean x * ∑ c, wl q Wk h c * g c) + ∑ c, wl q Wk h c * b c
      = score e g b q Wk h x := by
  have h1 : score e g b q Wk h x = ∑ c, wl q Wk h c * ln e g b x c := by
    rw [score, ← sum_mask h fun r => q r * ∑ c, ln e g b x c * Wk r c]
    simp only [wl, Finset.mul_sum, Finset.sum_mul]
    rw [Finset.sum_comm]
    refine Finset.sum_congr rfl fun c _ => Finset.sum_congr rfl fun r _ => ?_
    ring
  rw [h1, Finset.mul_sum, ← Finset.sum_sub_distrib, Finset.mul_sum, ← Finset.sum_add_distrib]
  refine Finset.sum_congr rfl fun c _ => ?_
  unfold ln; ring

/-- The sum over the first `k` blocks of 512 rows of the unnormalized softmax weights, shifted by `s`, times `f`. -/
def part (l f : ℕ → ℝ) (s : ℝ) (k : ℕ) : ℝ := ∑ n ∈ Finset.range (512 * k), Real.exp (l n - s) * f n

theorem part_zero (l f : ℕ → ℝ) (s : ℝ) : part l f s 0 = 0 := by simp [part]

/-- One block more, with the shift moved from `s` to `s'`. -/
theorem part_succ (l f : ℕ → ℝ) (s s' : ℝ) (k : ℕ) :
    part l f s k * Real.exp (s - s') + ∑ i : Fin 512, Real.exp (l (512 * k + i.val) - s') * f (512 * k + i.val)
      = part l f s' (k + 1) := by
  have hb := Finset.sum_range_add (fun n => Real.exp (l n - s') * f n) (512 * k) 512
  rw [part, part, show 512 * (k + 1) = 512 * k + 512 by ring, hb, Finset.sum_mul,
    Finset.sum_range fun i => Real.exp (l (512 * k + i) - s') * f (512 * k + i)]
  congr 1
  refine Finset.sum_congr rfl fun n _ => ?_
  rw [mul_right_comm, ← Real.exp_add]; congr 2; ring

/-- All eight blocks. -/
theorem part_all (l f : ℕ → ℝ) (s : ℝ) : part l f s 8 = ∑ n : Fin 4096, Real.exp (l n.val - s) * f n.val := by
  rw [part, Finset.sum_range]

/-- The weights' sum is positive. -/
theorem den_pos (l : ℕ → ℝ) (s : ℝ) : 0 < ∑ n : Fin 4096, Real.exp (l n.val - s) :=
  Finset.sum_pos (fun _ _ => Real.exp_pos _) ⟨0, Finset.mem_univ _⟩

/-- A softmax weight. -/
def weight (l : ℕ → ℝ) (s : ℝ) (n : Fin 4096) : ℝ := Real.exp (l n.val - s) / ∑ k : Fin 4096, Real.exp (l k.val - s)

/-- A softmax weight does not depend on the shift. -/
theorem weight_shift (l : ℕ → ℝ) (s s' : ℝ) (n : Fin 4096) : weight l s n = weight l s' n := by
  have h : ∀ k : Fin 4096, Real.exp (l k.val - s) = Real.exp (s' - s) * Real.exp (l k.val - s') := fun k => by
    rw [← Real.exp_add]; congr 1; ring
  rw [weight, weight, h n]
  simp only [h, ← Finset.mul_sum]
  rw [mul_div_mul_left _ _ (Real.exp_pos _).ne']

/-- The softmax weights sum to one. -/
theorem weight_sum (l : ℕ → ℝ) (s : ℝ) : ∑ n, weight l s n = 1 := by
  simp only [weight, ← Finset.sum_div]
  exact div_self (den_pos l s).ne'

/-- One column of the aggregated values as the reference computes it: the weighted sum of the projected normalized rows. -/
def agg (e : ℝ) (g b : Fin 1024 → ℝ) (X : ℕ → Fin 1024 → ℝ) (l : ℕ → ℝ) (s : ℝ) (w : Fin 1024 → ℝ) : ℝ :=
  ∑ n : Fin 4096, weight l s n * ∑ c, ln e g b (X n.val) c * w c

/-- The same as the kernel computes it: the weighted rows and the weighted means are gathered first, divided by the
    weights' sum, scaled and shifted, and projected last. -/
theorem agg_eq (e : ℝ) (g b : Fin 1024 → ℝ) (X : ℕ → Fin 1024 → ℝ) (l : ℕ → ℝ) (s s' : ℝ) (w : Fin 1024 → ℝ) :
    ∑ c, (g c * (part l (fun n => inv e (X n) * X n c) s 8 * (1 / part l (fun _ => 1) s 8)
        - part l (fun n => inv e (X n) * mean (X n)) s 8 * (1 / part l (fun _ => 1) s 8)) + b c) * w c
      = agg e g b X l s' w := by
  have hd : part l (fun _ => 1) s 8 = ∑ k : Fin 4096, Real.exp (l k.val - s) := by simp [part_all]
  have hw : ∀ f : ℕ → ℝ, part l f s 8 * (1 / part l (fun _ => 1) s 8) = ∑ n : Fin 4096, weight l s n * f n.val := fun f => by
    rw [hd, part_all, Finset.sum_mul]
    refine Finset.sum_congr rfl fun n _ => ?_
    rw [weight]; ring
  have hln : ∀ c, g c * (∑ n : Fin 4096, weight l s n * (inv e (X n.val) * X n.val c)
      - ∑ n : Fin 4096, weight l s n * (inv e (X n.val) * mean (X n.val))) + b c
      = ∑ n : Fin 4096, weight l s n * ln e g b (X n.val) c := fun c => by
    conv_lhs => rw [← mul_one (b c), ← weight_sum l s]
    rw [← Finset.sum_sub_distrib, Finset.mul_sum, Finset.mul_sum, ← Finset.sum_add_distrib]
    refine Finset.sum_congr rfl fun n _ => ?_
    unfold ln; ring
  simp only [hw, hln, agg, weight_shift l s' s]
  simp only [Finset.sum_mul, Finset.mul_sum]
  rw [Finset.sum_comm]
  refine Finset.sum_congr rfl fun n _ => Finset.sum_congr rfl fun c _ => ?_
  ring

end Cert.Pool

end
-- ==== Proof.Norm.lean ====
/-
  The layer norm of one row of extended reals with a real scale and shift: it is real whatever the row holds. A row that
  holds an infinity has an infinite mean and an infinite variance, whose reciprocal root is zero.
-/
module

public import proofs.«01_k».proof.Proof.Pool
public import proofs.«01_k».proof.Proof.Words

@[expose] public section

noncomputable section

open Idealize.ShloMosaic

namespace Cert.Norm

open Cert.Words

/-- A row's mean. -/
def mean (x : Fin 1024 → EReal) : EReal := Ideal.div (∑ c, x c) ((1024 : ℝ) : EReal)

/-- The reciprocal root of the variance and `eps`, from the centred row. -/
def scale (y : Fin 1024 → EReal) : EReal :=
  Ideal.rsqrt (Ideal.div (∑ c, y c * y c) ((1024 : ℝ) : EReal) + (eps : EReal))

/-- The layer norm. -/
def ln (g b x : Fin 1024 → EReal) (c : Fin 1024) : EReal :=
  (x c - mean x) * scale (fun c => x c - mean x) * g c + b c

/-- A sum with a minus infinity in it is minus infinity. -/
theorem sum_bot {ι : Type} [DecidableEq ι] (s : Finset ι) (f : ι → EReal) (i : ι) (hi : i ∈ s) (h : f i = ⊥) : ∑ j ∈ s, f j = ⊥ := by
  rw [← Finset.add_sum_erase s f hi, h, EReal.bot_add]

/-- A sum with no minus infinity in it is not one. -/
theorem sum_ne_bot {ι : Type} [DecidableEq ι] (s : Finset ι) (f : ι → EReal) (h : ∀ i, f i ≠ ⊥) : ∑ j ∈ s, f j ≠ ⊥ := by
  induction s using Finset.induction_on with
  | empty => simp
  | insert a s ha ih => rw [Finset.sum_insert ha]; exact EReal.add_ne_bot_iff.mpr ⟨h a, ih⟩

/-- A sum with a plus infinity and no minus infinity in it is plus infinity. -/
theorem sum_top {ι : Type} [DecidableEq ι] (s : Finset ι) (f : ι → EReal) (hb : ∀ i, f i ≠ ⊥) (i : ι) (hi : i ∈ s) (h : f i = ⊤) :
    ∑ j ∈ s, f j = ⊤ := by
  rw [← Finset.add_sum_erase s f hi, h, EReal.top_add_of_ne_bot (sum_ne_bot _ _ hb)]

theorem div_top : Ideal.div ⊤ ((1024 : ℝ) : EReal) = ⊤ := by
  rw [Ideal.div_coe (by norm_num), EReal.top_mul_coe_of_pos (by norm_num)]

theorem div_bot : Ideal.div ⊥ ((1024 : ℝ) : EReal) = ⊥ := by
  rw [Ideal.div_coe (by norm_num), EReal.bot_mul_coe_of_pos (by norm_num)]

/-- A row that is infinite everywhere has reciprocal root zero. -/
theorem scale_inf (y : Fin 1024 → EReal) (h : ∀ c, y c = ⊤ ∨ y c = ⊥) : scale y = 0 := by
  have hs : ∀ c, y c * y c = ⊤ := fun c => by
    rcases h c with h | h <;> rw [h]
    · exact EReal.top_mul_top
    · exact EReal.bot_mul_bot
  rw [scale, sum_top Finset.univ (fun c => y c * y c) (fun c => by rw [hs]; exact top_ne_bot) 0 (Finset.mem_univ _) (hs 0),
    div_top, EReal.top_add_coe, Ideal.rsqrt_top]

/-- A row with an infinity in it has an infinite mean. -/
theorem mean_inf (x : Fin 1024 → EReal) (c : Fin 1024) (h : x c = ⊤ ∨ x c = ⊥) : mean x = ⊤ ∨ mean x = ⊥ := by
  by_cases hb : ∃ i, x i = ⊥
  · obtain ⟨i, hi⟩ := hb
    right; rw [mean, sum_bot Finset.univ x i (Finset.mem_univ _) hi, div_bot]
  · have hb' : ∀ i, x i ≠ ⊥ := fun i hi => hb ⟨i, hi⟩
    left; rw [mean, sum_top Finset.univ x hb' c (Finset.mem_univ _) (h.resolve_right (hb' c)), div_top]

/-- Anything minus an infinity is infinite. -/
theorem sub_inf (a b : EReal) (h : b = ⊤ ∨ b = ⊥) : a - b = ⊤ ∨ a - b = ⊥ := by
  rcases h with rfl | rfl
  · right; rw [sub_eq_add_neg, EReal.neg_top, EReal.add_bot]
  · by_cases ha : a = ⊥
    · right; rw [ha, sub_eq_add_neg, EReal.bot_add]
    · left; rw [sub_eq_add_neg, EReal.neg_bot, EReal.add_top_of_ne_bot ha]

/-- With a real scale and shift the layer norm of any row is real. -/
theorem ln_real (g b : Fin 1024 → EReal) (x : Fin 1024 → EReal) (G B : Fin 1024 → ℝ) (hg : ∀ c, g c = (G c : EReal))
    (hb : ∀ c, b c = (B c : EReal)) : ∃ Y : Fin 1024 → ℝ, ∀ c, ln g b x c = (Y c : EReal) := by
  by_cases hx : ∃ c, x c = ⊤ ∨ x c = ⊥
  · obtain ⟨c, hc⟩ := hx
    refine ⟨B, fun k => ?_⟩
    rw [ln, scale_inf _ (fun k => sub_inf _ _ (mean_inf x c hc)), mul_zero, zero_mul, zero_add, hb]
  · have hx' : ∀ c, x c = ((x c).toReal : EReal) := fun c =>
      (EReal.coe_toReal (fun h => hx ⟨c, .inl h⟩) (fun h => hx ⟨c, .inr h⟩)).symm
    have hv : 0 < Pool.var (fun c => (x c).toReal) + eps := add_pos_of_nonneg_of_pos (Pool.var_nonneg _) eps_pos
    refine ⟨Pool.ln eps G B (fun c => (x c).toReal), fun k => ?_⟩
    have hm : mean x = ((Pool.mean fun c => (x c).toReal : ℝ) : EReal) := by
      rw [mean, Finset.sum_congr rfl fun c _ => hx' c, coe_sum, coe_div (by norm_num)]; rfl
    have hc : ∀ c, x c - mean x = (((x c).toReal - Pool.mean fun c => (x c).toReal : ℝ) : EReal) := fun c => by
      rw [hm, EReal.coe_sub, ← hx' c]
    rw [ln, scale]
    simp only [hc, hg, hb, ← EReal.coe_mul, coe_sum, coe_div (show (1024 : ℝ) ≠ 0 by norm_num), ← EReal.coe_add]
    rw [Pool.var_def fun c => (x c).toReal, coe_rsqrt hv]
    simp only [← EReal.coe_mul, ← EReal.coe_add]
    rfl

end Cert.Norm

end
-- ==== Proof.Payloads.lean ====
/-
  What one grid point of the kernel computes, read at an index, when the blocks and the carried scratch it reads hold
  real numbers: the block's means, reciprocal roots and scores, the new running maximum, and the updates of the weights'
  sum, of the weighted means' sum and of the weighted rows' sum; and what the first point of a batch writes before that.
-/
module

public import proofs.«01_k».proof.Proof.Gen.KernelIdeal.Skeleton
public import proofs.«01_k».proof.Proof.Words
public import proofs.«01_k».proof.Proof.Pool
public import proofs.«01_k».proof.Proof.Norm

@[expose] public section

set_option maxRecDepth 16384

noncomputable section

open Idealize.ShloMosaic Idealize.ShloMosaic.TcCoe Idealize.SL.Sem

namespace Cert.KernelIdeal.Pay

open Cert.KernelIdeal Cert.KernelIdeal.Gen Cert.Words

/-! ## The preparation at a batch's first point -/

/-- The mask's condition, as the kernel computes it on 32-bit words: column `r`'s number over 128 is `h`. -/
theorem mask_bit : ∀ (h : Fin 8) (r : Fin 1024),
    IntOp.cmpi CmpIPredicate.eq
        (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 128#32 0#32))
                (Scalar.extui (Scalar.cmpi CmpIPredicate.slt 128#32 0#32))))
            (IntOp.cmpi CmpIPredicate.ne (IntOp.remsi ArithUnit.vector (BitVec.ofNat 32 r.val) 128#32) 0#32))
          (IntOp.subi (IntOp.divsi ArithUnit.vector (BitVec.ofNat 32 r.val) 128#32) 1#32)
          (IntOp.divsi ArithUnit.vector (BitVec.ofNat 32 r.val) 128#32))
        (BitVec.ofNat 32 h.val) = BitVec.ofBool (decide (r.val / 128 = h.val)) := by
  decide +kernel

/-- The head mask. -/
theorem mask_at (h : Fin 8) (r : Fin 1024) : k0_pay13 (F := Ideal) (ix2 h r) = ((Pool.mask h r : ℝ) : EReal) := by
  pointwise [k0_pay13]
  rw [mask_bit h r]
  by_cases e : r.val / 128 = h.val <;> simp [Pool.mask, e, Scalar.select]

section prep
variable (cf qg qb kg kb : FVec Ideal S1x1024 .f32) (wq wk : FVec Ideal S1024x1024 .f32)
variable {Y KG KB : Fin 1024 → ℝ} {WQ WK : Fin 1024 → Fin 1024 → ℝ}

/-- The scaled query of the normalized class feature: the query projection and the scale 1/32. -/
def query (Y : Fin 1024 → ℝ) (WQ : Fin 1024 → Fin 1024 → ℝ) (r : Fin 1024) : ℝ := (∑ c, Y c * WQ r c) * (1 / 32)

/-- The heads' weights over the columns. -/
theorem wl_at (hy : ∀ c, Norm.ln (fun k => qg (ix2 0 k)) (fun k => qb (ix2 0 k)) (fun k => cf (ix2 0 k)) c = (Y c : EReal))
    (hwq : ∀ r c, wq (ix2 r c) = (WQ r c : EReal)) (hwk : ∀ r c, wk (ix2 r c) = (WK r c : EReal)) (h : Fin 8) (c : Fin 1024) :
    k0_pay4 (F := Ideal) (k0_pay13 (F := Ideal)) cf qg qb wq wk (ix2 h c)
      = ((Pool.wl (query Y WQ) WK h c : ℝ) : EReal) := by
  simp only [Norm.ln, Norm.scale, Norm.mean] at hy
  pointwise [k0_pay4]
  simp only [mask_at, hwq, hwk, w1024, wEps, wScale]
  simp only [hy, ← EReal.coe_mul, coe_sum]
  rfl

/-- The same with the layer norm's scale. -/
theorem wlg_at (hwl : ∀ h c, k0_pay4 (F := Ideal) (k0_pay13 (F := Ideal)) cf qg qb wq wk (ix2 h c) = ((Pool.wl (query Y WQ) WK h c : ℝ) : EReal))
    (hkg : ∀ c, kg (ix2 0 c) = (KG c : EReal)) (h : Fin 8) (c : Fin 1024) :
    k0_pay5 (F := Ideal) (k0_pay13 (F := Ideal)) cf qg qb wq wk kg (ix2 h c)
      = ((Pool.wl (query Y WQ) WK h c * KG c : ℝ) : EReal) := by
  pointwise [k0_pay5]
  rw [hkg, hwl, ← EReal.coe_mul]

/-- Its sum over the columns. -/
theorem g1_at (v : FVec Ideal S8x1024 .f32) (f : Fin 8 → Fin 1024 → ℝ) (hv : ∀ h c, v (ix2 h c) = (f h c : EReal)) (h : Fin 8) :
    k0_pay8 (F := Ideal) v (ix2 h 0) = ((∑ c, f h c : ℝ) : EReal) := by
  pointwise [k0_pay8]
  simp only [hv, coe_sum]

/-- The weights' sum against the layer norm's shift. -/
theorem g0_at (v : FVec Ideal S8x1024 .f32) (f : Fin 8 → Fin 1024 → ℝ) (hv : ∀ h c, v (ix2 h c) = (f h c : EReal))
    (hkb : ∀ c, kb (ix2 0 c) = (KB c : EReal)) (h : Fin 8) :
    k0_pay9 (F := Ideal) v kb (ix2 h 0) = ((∑ c, f h c * KB c : ℝ) : EReal) := by
  pointwise [k0_pay9]
  simp only [hv, hkb, ← EReal.coe_mul, coe_sum]

/-- The row of ones under the eight heads' rows. -/
theorem ones_at (c : Fin 1024) : k0_pay7 (F := Ideal) (ix2 0 c) = 1 := by
  pointwise [k0_pay7]

/-- The rows of the heads are stored as they are. -/
theorem pay6_at (v : FVec Ideal S8x1024 .f32) (h : Fin 8) (c : Fin 1024) : k0_pay6 (F := Ideal) v (ix2 h c) = v (ix2 h c) := by
  pointwise [k0_pay6]

/-- The running maximum's start. -/
theorem low_at (h : Fin 8) : k0_pay10 (F := Ideal) (ix2 h 0) = (low : EReal) := by
  pointwise [k0_pay10]
  exact wLow

theorem zero_d_at (h : Fin 8) : k0_pay11 (F := Ideal) (ix2 h 0) = ((0 : ℝ) : EReal) := by
  pointwise [k0_pay11]
  exact EReal.coe_zero.symm

theorem zero_acc_at (h : Fin 8) (c : Fin 1024) : k0_pay15 (F := Ideal) (ix2 h c) = ((0 : ℝ) : EReal) := by
  pointwise [k0_pay15]
  exact EReal.coe_zero.symm

end prep

/-! ## One block of 512 rows -/

section block
variable (v33 : FVec Ideal S1x512x1024 .f32) (v35 : FVec Ideal S16x1024 .f32) (v51 v58 v61 : FVec Ideal S8x1 .f32)
variable {x : Fin 512 → Fin 1024 → ℝ} {wlg : Fin 8 → Fin 1024 → ℝ}

theorem ones_row (c : Fin 1024) : k0_pay18 (F := Ideal) (ix2 0 c) = 1 := by
  pointwise [k0_pay18]

/-- The ones' row against the block: each row's mean. -/
theorem mean_at (hx : ∀ i c, v33 (ix3 0 i c) = (x i c : EReal)) (h8 : ∀ c, v35 (ix2 8 c) = 1) (i : Fin 512) :
    k0_pay20 (F := Ideal) (k0_pay17 v33 v35) (ix2 0 i) = ((Pool.mean (x i) : ℝ) : EReal) := by
  pointwise [k0_pay20, k0_pay17, k0_pay16]
  have h8' : ∀ c, v35 (ix2 ⟨8, by omega⟩ c) = 1 := h8
  simp only [h8, h8', hx, one_mul, coe_sum, wInv, ← EReal.coe_mul]
  rw [Pool.mean, mul_one_div]

/-- Each row's reciprocal root. -/
theorem inv_at (hx : ∀ i c, v33 (ix3 0 i c) = (x i c : EReal)) (h8 : ∀ c, v35 (ix2 8 c) = 1) (i : Fin 512) :
    k0_pay21 (F := Ideal) (k0_pay17 v33 v35) (k0_pay18 (F := Ideal)) (k0_pay19 v33) (ix2 0 i)
      = ((Pool.inv eps (x i) : ℝ) : EReal) := by
  have hv : 0 < Pool.var (x i) + eps := add_pos_of_nonneg_of_pos (Pool.var_nonneg _) eps_pos
  pointwise [k0_pay21, k0_pay18, k0_pay19, k0_pay16]
  simp only [hx, mean_at v33 v35 hx h8, coe_sum, wInv, wEps, ← EReal.coe_mul, ← EReal.coe_sub, Pool.var_eq, ← EReal.coe_add]
  rw [coe_rsqrt hv, Pool.inv]

/-- The product of the scratch's rows with the block's. -/
theorem m1_at (r : Fin 16) (i : Fin 512) :
    k0_pay17 (F := Ideal) v33 v35 (ix2 r i) = ∑ c, v35 (ix2 r c) * v33 (ix3 0 i c) := by
  pointwise [k0_pay17, k0_pay16]

/-- Each head's score of each row. -/
theorem score_at (hx : ∀ i c, v33 (ix3 0 i c) = (x i c : EReal)) (h8 : ∀ c, v35 (ix2 8 c) = 1)
    {q KG KB : Fin 1024 → ℝ} {WK : Fin 1024 → Fin 1024 → ℝ}
    (hw : ∀ (h : Fin 8) c, v35 (ix2 ⟨h.val, by omega⟩ c) = ((Pool.wl q WK h c * KG c : ℝ) : EReal))
    (h1 : ∀ h, v51 (ix2 h 0) = ((∑ c, Pool.wl q WK h c * KG c : ℝ) : EReal))
    (h0 : ∀ h, v58 (ix2 h 0) = ((∑ c, Pool.wl q WK h c * KB c : ℝ) : EReal)) (h : Fin 8) (i : Fin 512) :
    k0_pay22 (F := Ideal) (k0_pay17 v33 v35) (k0_pay18 (F := Ideal)) (k0_pay19 v33) v51 v58 (ix2 h i)
      = ((Pool.score eps KG KB q WK h (x i) : ℝ) : EReal) := by
  pointwise [k0_pay22]
  rw [m1_at]
  simp only [inv_at v33 v35 hx h8, mean_at v33 v35 hx h8, hw, h1, h0, hx, ← EReal.coe_mul, coe_sum, ← EReal.coe_sub,
    ← EReal.coe_add, Pool.score_eq]

end block

/-! ## The running maximum and the three sums, over any scores -/

section sums
variable (v33 : FVec Ideal S1x512x1024 .f32) (v36 : FVec Ideal S16x512 .f32) (v37 : FVec Ideal S1x1024 .f32)
  (v38 : FVec Ideal S512x1024 .f32) (v51 v58 v61 v72 v80 : FVec Ideal S8x1 .f32) (v93 : FVec Ideal S8x1024 .f32)
variable {x : Fin 512 → Fin 1024 → ℝ} {l : Fin 8 → Fin 512 → ℝ} {s u : Fin 512 → ℝ} {M M' D T : Fin 8 → ℝ}
  {A : Fin 8 → Fin 1024 → ℝ}

/-- The new running maximum is a real number for each head. -/
theorem max_at (hl : ∀ h i, k0_pay22 (F := Ideal) v36 v37 v38 v51 v58 (ix2 h i) = (l h i : EReal))
    (hM : ∀ h, v61 (ix2 h 0) = (M h : EReal)) :
    ∃ M' : Fin 8 → ℝ, ∀ h, k0_pay23 (F := Ideal) v36 v37 v38 v51 v58 v61 (ix2 h 0) = (M' h : EReal) := by
  have hh : ∀ h, ∃ r : ℝ, k0_pay23 (F := Ideal) v36 v37 v38 v51 v58 v61 (ix2 h 0) = (r : EReal) := fun h => by
    pointwise [k0_pay23]
    simp only [hl, hM, wBot]
    exact max_fold_real Finset.univ (fun i => l h i) (M h)
  exact ⟨fun h => (hh h).choose, fun h => (hh h).choose_spec⟩

/-- The factor that moves the sums from the old maximum to the new one. -/
theorem alpha_at (hM : ∀ h, v61 (ix2 h 0) = (M h : EReal))
    (hM' : ∀ h, k0_pay23 (F := Ideal) v36 v37 v38 v51 v58 v61 (ix2 h 0) = (M' h : EReal)) (h : Fin 8) :
    k0_pay24 (F := Ideal) v36 v37 v38 v51 v58 v61 (ix2 h 0) = ((Real.exp (M h - M' h) : ℝ) : EReal) := by
  pointwise [k0_pay24]
  rw [hM, hM', ← EReal.coe_sub, Ideal.exp_coe]

/-- The block's unnormalized weights. -/
theorem p_at (hl : ∀ h i, k0_pay22 (F := Ideal) v36 v37 v38 v51 v58 (ix2 h i) = (l h i : EReal))
    (hM' : ∀ h, k0_pay23 (F := Ideal) v36 v37 v38 v51 v58 v61 (ix2 h 0) = (M' h : EReal)) (h : Fin 8) (i : Fin 512) :
    k0_pay25 (F := Ideal) v36 v37 v38 v51 v58 v61 (ix2 h i) = ((Real.exp (l h i - M' h) : ℝ) : EReal) := by
  pointwise [k0_pay25]
  rw [hl, hM', ← EReal.coe_sub, Ideal.exp_coe]

/-- The weights times the rows' reciprocal roots. -/
theorem ps_at (hp : ∀ h i, k0_pay25 (F := Ideal) v36 v37 v38 v51 v58 v61 (ix2 h i) = ((Real.exp (l h i - M' h) : ℝ) : EReal))
    (hs : ∀ i, k0_pay21 (F := Ideal) v36 v37 v38 (ix2 0 i) = (s i : EReal)) (h : Fin 8) (i : Fin 512) :
    k0_pay26 (F := Ideal) v36 v37 v38 v51 v58 v61 (ix2 h i) = ((Real.exp (l h i - M' h) * s i : ℝ) : EReal) := by
  pointwise [k0_pay26]
  rw [hp, hs, ← EReal.coe_mul]

/-- The weights' sum with the block added. -/
theorem d_at (ha : ∀ h, k0_pay24 (F := Ideal) v36 v37 v38 v51 v58 v61 (ix2 h 0) = ((Real.exp (M h - M' h) : ℝ) : EReal))
    (hp : ∀ h i, k0_pay25 (F := Ideal) v36 v37 v38 v51 v58 v61 (ix2 h i) = ((Real.exp (l h i - M' h) : ℝ) : EReal))
    (hD : ∀ h, v72 (ix2 h 0) = (D h : EReal)) (h : Fin 8) :
    k0_pay27 (F := Ideal) v36 v37 v38 v51 v58 v61 v72 (ix2 h 0)
      = ((D h * Real.exp (M h - M' h) + ∑ i, Real.exp (l h i - M' h) * 1 : ℝ) : EReal) := by
  pointwise [k0_pay27]
  simp only [ha, hp, hD, coe_sum, ← EReal.coe_mul, ← EReal.coe_add, mul_one]

/-- The weighted means' sum with the block added. -/
theorem t_at (v42 : FVec Ideal S1x512 .f32) (v66 : FVec Ideal S8x1 .f32) (v71 : FVec Ideal S8x512 .f32)
    (ha : ∀ h, v66 (ix2 h 0) = ((Real.exp (M h - M' h) : ℝ) : EReal))
    (hps : ∀ h i, v71 (ix2 h i) = ((Real.exp (l h i - M' h) * s i : ℝ) : EReal))
    (hu : ∀ i, v42 (ix2 0 i) = (u i : EReal)) (hT : ∀ h, v80 (ix2 h 0) = (T h : EReal)) (h : Fin 8) :
    k0_pay1 (F := Ideal) v42 v66 v71 v80 (ix2 h 0)
      = ((T h * Real.exp (M h - M' h) + ∑ i, Real.exp (l h i - M' h) * (s i * u i) : ℝ) : EReal) := by
  pointwise [k0_pay1]
  simp only [ha, hps, hu, hT, coe_sum, ← EReal.coe_mul, ← EReal.coe_add, mul_assoc]

/-- The new maximum is stored as it is. -/
theorem pay2_at (v64 : FVec Ideal S8x1 .f32) (h : Fin 8) : k0_pay2 (F := Ideal) v64 (ix2 h 0) = v64 (ix2 h 0) := by
  pointwise [k0_pay2]

/-- The weighted rows' sum with the block added. -/
theorem acc_at (v66 : FVec Ideal S8x1 .f32) (v71 : FVec Ideal S8x512 .f32) (hx : ∀ i c, v33 (ix3 0 i c) = (x i c : EReal))
    (ha : ∀ h, v66 (ix2 h 0) = ((Real.exp (M h - M' h) : ℝ) : EReal))
    (hps : ∀ h i, v71 (ix2 h i) = ((Real.exp (l h i - M' h) * s i : ℝ) : EReal))
    (hA : ∀ h c, v93 (ix2 h c) = (A h c : EReal)) (h : Fin 8) (c : Fin 1024) :
    k0_pay3 (F := Ideal) (k0_pay16 v33) v66 v71 v93 (ix2 h c)
      = ((A h c * Real.exp (M h - M' h) + ∑ i, Real.exp (l h i - M' h) * (s i * x i c) : ℝ) : EReal) := by
  pointwise [k0_pay3, k0_pay16]
  simp only [ha, hps, hx, hA, coe_sum, ← EReal.coe_mul, ← EReal.coe_add, mul_assoc]

end sums

/-! ## The result at a batch's last point -/

/-- The result over any aggregated values: the class feature, their output projection and the bias. -/
theorem out_at (d t : FVec Ideal S8x1 .f32) (acc : FVec Ideal S8x1024 .f32) (kg kb cf pb : FVec Ideal S1x1024 .f32)
    (wv pw : FVec Ideal S1024x1024 .f32) {D T : Fin 8 → ℝ} {A : Fin 8 → Fin 1024 → ℝ} {KG KB : Fin 1024 → ℝ}
    {WV : Fin 1024 → Fin 1024 → ℝ} (hD : ∀ h, d (ix2 h 0) = (D h : EReal)) (hD0 : ∀ h, D h ≠ 0)
    (hT : ∀ h, t (ix2 h 0) = (T h : EReal)) (hA : ∀ h c, acc (ix2 h c) = (A h c : EReal))
    (hkg : ∀ c, kg (ix2 0 c) = (KG c : EReal)) (hkb : ∀ c, kb (ix2 0 c) = (KB c : EReal))
    (hwv : ∀ r c, wv (ix2 r c) = (WV r c : EReal)) (j : Fin 1024) :
    k0_pay12 (F := Ideal) (k0_pay13 (F := Ideal)) d kg acc t kb wv pw cf pb (ix3 0 0 j)
      = cf (ix2 0 j) + (∑ r, ((∑ c, (KG c * (A (Pool.head r) c * (1 / D (Pool.head r))
          - T (Pool.head r) * (1 / D (Pool.head r))) + KB c) * WV r c : ℝ) : EReal) * pw (ix2 j r)) + pb (ix2 0 j) := by
  have hdiv : ∀ h, Ideal.div 1 (d (ix2 h 0)) = ((1 / D h : ℝ) : EReal) := fun h => by
    rw [hD, ← EReal.coe_one, coe_div (hD0 h)]
  pointwise [k0_pay12]
  simp only [hdiv, hT, hA, hkg, hkb, hwv, mask_at, ← EReal.coe_mul, ← EReal.coe_sub, ← EReal.coe_add, coe_sum, Pool.sum_head]

end Cert.KernelIdeal.Pay

end
-- ==== Proof.Carried.lean ====
/-
  What the kernel carries between grid points, over the payloads: a batch's first point prepares the weights and starts
  the sums, and each point adds its block of 512 rows to the running maximum and to the three sums.
-/
module

public import proofs.«01_k».proof.Proof.Gen.KernelIdeal.Value
public import proofs.«01_k».proof.Proof.Payloads
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Carried

open Cert.KernelIdeal Cert.KernelIdeal.Gen

variable (m : (ℓ : Loc nD τ sig) → Buf (Elt Ideal) ℓ)

/-- The running maximum after the block `x`, from the weights `w`, their sums `g1` and `g0` and the maximum before. -/
def nextM (x : FVec Ideal S1x512x1024 .f32) (w : FVec Ideal S16x1024 .f32) (g0 g1 a : FVec Ideal S8x1 .f32) : FVec Ideal S8x1 .f32 :=
  k0_pay2 (k0_pay23 (k0_pay17 x w) (k0_pay18 (F := Ideal)) (k0_pay19 x) g1 g0 a)

/-- The weights' sum after the block. -/
def nextD (x : FVec Ideal S1x512x1024 .f32) (w : FVec Ideal S16x1024 .f32) (g0 g1 a d : FVec Ideal S8x1 .f32) : FVec Ideal S8x1 .f32 :=
  k0_pay27 (k0_pay17 x w) (k0_pay18 (F := Ideal)) (k0_pay19 x) g1 g0 a d

/-- The weighted means' sum after the block. -/
def nextT (x : FVec Ideal S1x512x1024 .f32) (w : FVec Ideal S16x1024 .f32) (g0 g1 a t : FVec Ideal S8x1 .f32) : FVec Ideal S8x1 .f32 :=
  k0_pay1 (k0_pay20 (k0_pay17 x w)) (k0_pay24 (k0_pay17 x w) (k0_pay18 (F := Ideal)) (k0_pay19 x) g1 g0 a)
    (k0_pay26 (k0_pay17 x w) (k0_pay18 (F := Ideal)) (k0_pay19 x) g1 g0 a) t

/-- The weighted rows' sum after the block. -/
def nextA (x : FVec Ideal S1x512x1024 .f32) (w : FVec Ideal S16x1024 .f32) (g0 g1 a : FVec Ideal S8x1 .f32)
    (acc : FVec Ideal S8x1024 .f32) : FVec Ideal S8x1024 .f32 :=
  k0_pay3 (k0_pay16 x) (k0_pay24 (k0_pay17 x w) (k0_pay18 (F := Ideal)) (k0_pay19 x) g1 g0 a)
    (k0_pay26 (k0_pay17 x w) (k0_pay18 (F := Ideal)) (k0_pay19 x) g1 g0 a) acc

/-- The weights' buffer read whole, after its two stores. -/
theorem read_two (p q : FVec Ideal S8x1024 .f32) :
    (View.whole (sig := sig) cc0_scratch0).readCov (Val := Elt Ideal) [⟨Rect.unit (s := S16x1024) ![8, 0] ![8, 1024] inb_S16x1024_S8x1024_8_0, p⟩,
      ⟨Rect.unit (s := S16x1024) ![0, 0] ![8, 1024] inb_S16x1024_S8x1024_0_0, q⟩]
      (Rect.unit (s := S16x1024) ![0, 0] ![16, 1024] inb_S16x1024_S16x1024_0_0).toLoadRect
    = View.canon (Val := Elt Ideal) [⟨Rect.unit (s := S16x1024) ![8, 0] ![8, 1024] inb_S16x1024_S8x1024_8_0, p⟩,
      ⟨Rect.unit (s := S16x1024) ![0, 0] ![8, 1024] inb_S16x1024_S8x1024_0_0, q⟩] := by
  refine (View.readCov_eq_canon_ld (View.whole (sig := sig) cc0_scratch0) _ (Rect.unit (s := S16x1024) ![0, 0] ![16, 1024] inb_S16x1024_S16x1024_0_0)
    (fun y => View.cover_of_tiledL (s := S16x1024) _ S8x1024.size (by sl_kernel_rfl) y)).trans ?_
  exact View.ld_unit_lit (S := S16x1024) _ _ (by decide)

/-! ## A batch's first point -/

section first
variable (c : Dev nD) (t : Fin cfg0.N) (h0 : t.val % 8 = 0) (h1 : ¬t.val % 8 = 7)
include h0 h1

/-- The weights' rows. -/
theorem first_w (h : Fin 8) (j : Fin 1024) : (outsAt0 m c t.val t.isLt).2.1 (ix2 ⟨h.val, by omega⟩ j)
    = k0_pay5 (k0_pay13 (F := Ideal)) (iblk m c 1 t) (iblk m c 2 t) (iblk m c 3 t) (iblk m c 4 t) (iblk m c 5 t) (iblk m c 7 t) (ix2 h j) := by
  rw [outsAt0_A m c t h0 h1]; frame_out
  canon_tiles x hx
  case piece0 =>
    change h.val = 8 + _ at hx0
    omega
  case piece1 =>
    change h.val = _ at hx0
    change j.val = _ at hx1
    obtain rfl : x = ix2 h j := by
      funext a; refine Fin.cases (Fin.ext hx0.symm) (fun a => ?_) a
      rw [Subsingleton.elim a 0]; exact Fin.ext hx1.symm
    exact Pay.pay6_at _ h j

/-- The row of ones under them. -/
theorem first_one (j : Fin 1024) : (outsAt0 m c t.val t.isLt).2.1 (ix2 8 j) = k0_pay7 (F := Ideal) (ix2 0 j) := by
  rw [outsAt0_A m c t h0 h1]; frame_out
  canon_tiles x hx
  case piece0 =>
    change 8 = 8 + _ at hx0
    change j.val = _ at hx1
    obtain rfl : x = ix2 0 j := by
      funext a; refine Fin.cases (Fin.ext (show (x 0).val = 0 by omega)) (fun a => ?_) a
      rw [Subsingleton.elim a 0]; exact Fin.ext hx1.symm
    rfl
  case piece1 =>
    change 8 = _ at hx0
    omega

/-- The weights' sum against the layer norm's shift. -/
theorem first_g0 : (outsAt0 m c t.val t.isLt).2.2.2.2.2.2.1 = (k0_pay9 (k0_pay4 (k0_pay13 (F := Ideal)) (iblk m c 1 t) (iblk m c 2 t) (iblk m c 3 t) (iblk m c 4 t) (iblk m c 5 t)) (iblk m c 8 t)) := by
  rw [outsAt0_A m c t h0 h1]; frame_out

/-- The weights' sum. -/
theorem first_g1 : (outsAt0 m c t.val t.isLt).2.2.2.2.2.2.2 = (k0_pay8 (k0_pay5 (k0_pay13 (F := Ideal)) (iblk m c 1 t) (iblk m c 2 t) (iblk m c 3 t) (iblk m c 4 t) (iblk m c 5 t) (iblk m c 7 t))) := by
  rw [outsAt0_A m c t h0 h1]; frame_out

/-- The running maximum after the first block. -/
theorem first_m : (outsAt0 m c t.val t.isLt).2.2.2.1 = nextM (iblk m c 0 t) (outsAt0 m c t.val t.isLt).2.1 (k0_pay9 (k0_pay4 (k0_pay13 (F := Ideal)) (iblk m c 1 t) (iblk m c 2 t) (iblk m c 3 t) (iblk m c 4 t) (iblk m c 5 t)) (iblk m c 8 t)) (k0_pay8 (k0_pay5 (k0_pay13 (F := Ideal)) (iblk m c 1 t) (iblk m c 2 t) (iblk m c 3 t) (iblk m c 4 t) (iblk m c 5 t) (iblk m c 7 t))) (k0_pay10 (F := Ideal)) := by
  rw [outsAt0_A m c t h0 h1]; frame_out
  rw [read_two]
  rfl

/-- The sum of the weights after the first block. -/
theorem first_d : (outsAt0 m c t.val t.isLt).2.2.2.2.1 = nextD (iblk m c 0 t) (outsAt0 m c t.val t.isLt).2.1 (k0_pay9 (k0_pay4 (k0_pay13 (F := Ideal)) (iblk m c 1 t) (iblk m c 2 t) (iblk m c 3 t) (iblk m c 4 t) (iblk m c 5 t)) (iblk m c 8 t)) (k0_pay8 (k0_pay5 (k0_pay13 (F := Ideal)) (iblk m c 1 t) (iblk m c 2 t) (iblk m c 3 t) (iblk m c 4 t) (iblk m c 5 t) (iblk m c 7 t))) (k0_pay10 (F := Ideal)) (k0_pay11 (F := Ideal)) := by
  rw [outsAt0_A m c t h0 h1]; frame_out
  rw [read_two]
  rfl

/-- The sum of the weighted means after the first block. -/
theorem first_t : (outsAt0 m c t.val t.isLt).2.2.2.2.2.1 = nextT (iblk m c 0 t) (outsAt0 m c t.val t.isLt).2.1 (k0_pay9 (k0_pay4 (k0_pay13 (F := Ideal)) (iblk m c 1 t) (iblk m c 2 t) (iblk m c 3 t) (iblk m c 4 t) (iblk m c 5 t)) (iblk m c 8 t)) (k0_pay8 (k0_pay5 (k0_pay13 (F := Ideal)) (iblk m c 1 t) (iblk m c 2 t) (iblk m c 3 t) (iblk m c 4 t) (iblk m c 5 t) (iblk m c 7 t))) (k0_pay10 (F := Ideal)) (k0_pay14 (Scalar.ofBits (F := Ideal) .f32 0x00000000#32)) := by
  rw [outsAt0_A m c t h0 h1]; frame_out
  rw [read_two]
  rfl

/-- The sum of the weighted rows after the first block. -/
theorem first_acc : (outsAt0 m c t.val t.isLt).2.2.1 = nextA (iblk m c 0 t) (outsAt0 m c t.val t.isLt).2.1 (k0_pay9 (k0_pay4 (k0_pay13 (F := Ideal)) (iblk m c 1 t) (iblk m c 2 t) (iblk m c 3 t) (iblk m c 4 t) (iblk m c 5 t)) (iblk m c 8 t)) (k0_pay8 (k0_pay5 (k0_pay13 (F := Ideal)) (iblk m c 1 t) (iblk m c 2 t) (iblk m c 3 t) (iblk m c 4 t) (iblk m c 5 t) (iblk m c 7 t))) (k0_pay10 (F := Ideal)) (k0_pay15 (F := Ideal)) := by
  rw [outsAt0_A m c t h0 h1]; frame_out
  rw [read_two]
  rfl

end first

/-! ## A later point -/

section later
variable (c : Dev nD) (t : Fin cfg0.N) (h0 : ¬t.val % 8 = 0)
include h0

/-- The weights stay. -/
theorem later_w : (outsAt0 m c t.val t.isLt).2.1 = (outsAt0 m c (t.val - 1) (Nat.lt_of_le_of_lt (Nat.sub_le ..) t.isLt)).2.1 := by
  by_cases h1 : t.val % 8 = 7
  · rw [outsAt0_C m c t h0 h1]; rfl
  · rw [outsAt0_B m c t h0 h1]; rfl

/-- The weights' sum against the shift stays. -/
theorem later_g0 : (outsAt0 m c t.val t.isLt).2.2.2.2.2.2.1 = (outsAt0 m c (t.val - 1) (Nat.lt_of_le_of_lt (Nat.sub_le ..) t.isLt)).2.2.2.2.2.2.1 := by
  by_cases h1 : t.val % 8 = 7
  · rw [outsAt0_C m c t h0 h1]; rfl
  · rw [outsAt0_B m c t h0 h1]; rfl

/-- The weights' sum stays. -/
theorem later_g1 : (outsAt0 m c t.val t.isLt).2.2.2.2.2.2.2 = (outsAt0 m c (t.val - 1) (Nat.lt_of_le_of_lt (Nat.sub_le ..) t.isLt)).2.2.2.2.2.2.2 := by
  by_cases h1 : t.val % 8 = 7
  · rw [outsAt0_C m c t h0 h1]; rfl
  · rw [outsAt0_B m c t h0 h1]; rfl

/-- The running maximum after a later block. -/
theorem later_m : (outsAt0 m c t.val t.isLt).2.2.2.1 = nextM (iblk m c 0 t) (outsAt0 m c (t.val - 1) (Nat.lt_of_le_of_lt (Nat.sub_le ..) t.isLt)).2.1 (outsAt0 m c (t.val - 1) (Nat.lt_of_le_of_lt (Nat.sub_le ..) t.isLt)).2.2.2.2.2.2.1 (outsAt0 m c (t.val - 1) (Nat.lt_of_le_of_lt (Nat.sub_le ..) t.isLt)).2.2.2.2.2.2.2 (outsAt0 m c (t.val - 1) (Nat.lt_of_le_of_lt (Nat.sub_le ..) t.isLt)).2.2.2.1 := by
  by_cases h1 : t.val % 8 = 7
  · rw [outsAt0_C m c t h0 h1]; frame_out
    simp only [read_unread_whole]
    rfl
  · rw [outsAt0_B m c t h0 h1]; frame_out
    simp only [read_unread_whole]
    rfl

/-- The sum of the weights after a later block. -/
theorem later_d : (outsAt0 m c t.val t.isLt).2.2.2.2.1 = nextD (iblk m c 0 t) (outsAt0 m c (t.val - 1) (Nat.lt_of_le_of_lt (Nat.sub_le ..) t.isLt)).2.1 (outsAt0 m c (t.val - 1) (Nat.lt_of_le_of_lt (Nat.sub_le ..) t.isLt)).2.2.2.2.2.2.1 (outsAt0 m c (t.val - 1) (Nat.lt_of_le_of_lt (Nat.sub_le ..) t.isLt)).2.2.2.2.2.2.2 (outsAt0 m c (t.val - 1) (Nat.lt_of_le_of_lt (Nat.sub_le ..) t.isLt)).2.2.2.1 (outsAt0 m c (t.val - 1) (Nat.lt_of_le_of_lt (Nat.sub_le ..) t.isLt)).2.2.2.2.1 := by
  by_cases h1 : t.val % 8 = 7
  · rw [outsAt0_C m c t h0 h1]; frame_out
    simp only [read_unread_whole]
    rfl
  · rw [outsAt0_B m c t h0 h1]; frame_out
    simp only [read_unread_whole]
    rfl

/-- The sum of the weighted means after a later block. -/
theorem later_t : (outsAt0 m c t.val t.isLt).2.2.2.2.2.1 = nextT (iblk m c 0 t) (outsAt0 m c (t.val - 1) (Nat.lt_of_le_of_lt (Nat.sub_le ..) t.isLt)).2.1 (outsAt0 m c (t.val - 1) (Nat.lt_of_le_of_lt (Nat.sub_le ..) t.isLt)).2.2.2.2.2.2.1 (outsAt0 m c (t.val - 1) (Nat.lt_of_le_of_lt (Nat.sub_le ..) t.isLt)).2.2.2.2.2.2.2 (outsAt0 m c (t.val - 1) (Nat.lt_of_le_of_lt (Nat.sub_le ..) t.isLt)).2.2.2.1 (outsAt0 m c (t.val - 1) (Nat.lt_of_le_of_lt (Nat.sub_le ..) t.isLt)).2.2.2.2.2.1 := by
  by_cases h1 : t.val % 8 = 7
  · rw [outsAt0_C m c t h0 h1]; frame_out
    simp only [read_unread_whole]
    rfl
  · rw [outsAt0_B m c t h0 h1]; frame_out
    simp only [read_unread_whole]
    rfl

/-- The sum of the weighted rows after a later block. -/
theorem later_acc : (outsAt0 m c t.val t.isLt).2.2.1 = nextA (iblk m c 0 t) (outsAt0 m c (t.val - 1) (Nat.lt_of_le_of_lt (Nat.sub_le ..) t.isLt)).2.1 (outsAt0 m c (t.val - 1) (Nat.lt_of_le_of_lt (Nat.sub_le ..) t.isLt)).2.2.2.2.2.2.1 (outsAt0 m c (t.val - 1) (Nat.lt_of_le_of_lt (Nat.sub_le ..) t.isLt)).2.2.2.2.2.2.2 (outsAt0 m c (t.val - 1) (Nat.lt_of_le_of_lt (Nat.sub_le ..) t.isLt)).2.2.2.1 (outsAt0 m c (t.val - 1) (Nat.lt_of_le_of_lt (Nat.sub_le ..) t.isLt)).2.2.1 := by
  by_cases h1 : t.val % 8 = 7
  · rw [outsAt0_C m c t h0 h1]; frame_out
    simp only [read_unread_whole]
    rfl
  · rw [outsAt0_B m c t h0 h1]; frame_out
    simp only [read_unread_whole]
    rfl

/-- The output, at a batch's last point, from the sums there. -/
theorem last_out (h1 : t.val % 8 = 7) : (outsAt0 m c t.val t.isLt).1 = k0_pay12 (k0_pay13 (F := Ideal)) (outsAt0 m c t.val t.isLt).2.2.2.2.1 (iblk m c 7 t) (outsAt0 m c t.val t.isLt).2.2.1
    (outsAt0 m c t.val t.isLt).2.2.2.2.2.1 (iblk m c 8 t) (iblk m c 6 t) (iblk m c 9 t) (iblk m c 1 t) (iblk m c 10 t) := by
  rw [outsAt0_C m c t h0 h1]; frame_out

end later

end Cert.KernelIdeal.Carried

end
-- ==== Proof.Steps.lean ====
/-
  A batch's sums, over real numbers: what the prepared weights hold, what the carried sums hold after the first blocks,
  and how one block takes them further.
-/
module

public import proofs.«01_k».proof.Proof.Carried

@[expose] public section

set_option maxRecDepth 16384

noncomputable section

open Idealize.ShloMosaic Idealize.ShloMosaic.TcCoe Idealize.SL.Sem

namespace Cert.KernelIdeal.Steps

open Cert.KernelIdeal Cert.KernelIdeal.Gen Cert.Words Cert.KernelIdeal.Carried

/-- The prepared weights: a row per head, the row of ones, and the heads' sums over the columns. -/
structure Prep (q KG KB : Fin 1024 → ℝ) (WK : Fin 1024 → Fin 1024 → ℝ) (w : FVec Ideal S16x1024 .f32)
    (g0 g1 : FVec Ideal S8x1 .f32) : Prop where
  row : ∀ (h : Fin 8) c, w (ix2 ⟨h.val, by omega⟩ c) = ((Pool.wl q WK h c * KG c : ℝ) : EReal)
  one : ∀ c, w (ix2 8 c) = 1
  shift : ∀ h, g0 (ix2 h 0) = ((∑ c, Pool.wl q WK h c * KB c : ℝ) : EReal)
  scale : ∀ h, g1 (ix2 h 0) = ((∑ c, Pool.wl q WK h c * KG c : ℝ) : EReal)

/-- The carried sums after `k` blocks of the rows `X`, with the heads' scores `l`: some real maximum, and the sums of the
    weights, of the weighted normalized means and of the weighted normalized rows, all against that maximum. -/
def Sums (l : Fin 8 → ℕ → ℝ) (X : ℕ → Fin 1024 → ℝ) (k : ℕ) (m d t : FVec Ideal S8x1 .f32) (acc : FVec Ideal S8x1024 .f32) : Prop :=
  ∃ M : Fin 8 → ℝ, (∀ h, m (ix2 h 0) = (M h : EReal))
    ∧ (∀ h, d (ix2 h 0) = ((Pool.part (l h) (fun _ => 1) (M h) k : ℝ) : EReal))
    ∧ (∀ h, t (ix2 h 0) = ((Pool.part (l h) (fun n => Pool.inv eps (X n) * Pool.mean (X n)) (M h) k : ℝ) : EReal))
    ∧ ∀ h c, acc (ix2 h c) = ((Pool.part (l h) (fun n => Pool.inv eps (X n) * X n c) (M h) k : ℝ) : EReal)

/-- The scores of a head, row by row. -/
def scores (q KG KB : Fin 1024 → ℝ) (WK : Fin 1024 → Fin 1024 → ℝ) (X : ℕ → Fin 1024 → ℝ) (h : Fin 8) (n : ℕ) : ℝ :=
  Pool.score eps KG KB q WK h (X n)

/-- What the first point starts from: no block yet. -/
theorem sums_zero (l : Fin 8 → ℕ → ℝ) (X : ℕ → Fin 1024 → ℝ) :
    Sums l X 0 (k0_pay10 (F := Ideal)) (k0_pay11 (F := Ideal)) (k0_pay14 (Scalar.ofBits (F := Ideal) .f32 0x00000000#32))
      (k0_pay15 (F := Ideal)) := by
  refine ⟨fun _ => low, Pay.low_at, fun h => ?_, fun h => ?_, fun h c => ?_⟩
  · rw [Pool.part_zero]; exact Pay.zero_d_at h
  · rw [Pool.part_zero, EReal.coe_zero]; pointwise [k0_pay14]
  · rw [Pool.part_zero]; exact Pay.zero_acc_at h c

/-- One block takes the sums after `k` blocks to the sums after `k + 1`. -/
theorem sums_succ {q KG KB : Fin 1024 → ℝ} {WK : Fin 1024 → Fin 1024 → ℝ} {w : FVec Ideal S16x1024 .f32}
    {g0 g1 m d t : FVec Ideal S8x1 .f32} {acc : FVec Ideal S8x1024 .f32} (x : FVec Ideal S1x512x1024 .f32)
    (X : ℕ → Fin 1024 → ℝ) (k : ℕ) (hp : Prep q KG KB WK w g0 g1) (hs : Sums (scores q KG KB WK X) X k m d t acc)
    (hx : ∀ i c, x (ix3 0 i c) = (X (512 * k + i.val) c : EReal)) :
    Sums (scores q KG KB WK X) X (k + 1) (nextM x w g0 g1 m) (nextD x w g0 g1 m d) (nextT x w g0 g1 m t) (nextA x w g0 g1 m acc) := by
  obtain ⟨M, hM, hD, hT, hA⟩ := hs
  have hl := Pay.score_at x w g1 g0 (x := fun i => X (512 * k + i.val)) hx hp.one hp.row hp.scale hp.shift
  obtain ⟨M', hM'⟩ := Pay.max_at _ _ _ _ _ m hl hM
  have ha := Pay.alpha_at _ _ _ _ _ m hM hM'
  have hpp := Pay.p_at _ _ _ _ _ m hl hM'
  have hinv := Pay.inv_at x w (x := fun i => X (512 * k + i.val)) hx hp.one
  have hps := Pay.ps_at _ _ _ _ _ m hpp hinv
  have hmean := Pay.mean_at x w (x := fun i => X (512 * k + i.val)) hx hp.one
  refine ⟨M', fun h => (Pay.pay2_at _ h).trans (hM' h), fun h => ?_, fun h => ?_, fun h c => ?_⟩
  · refine (Pay.d_at _ _ _ _ _ m _ ha hpp hD h).trans ?_
    rw [← Pool.part_succ _ _ (M h)]; rfl
  · refine (Pay.t_at _ _ _ _ ha hps hmean hT h).trans ?_
    rw [← Pool.part_succ _ _ (M h)]; rfl
  · refine (Pay.acc_at _ _ _ _ hx ha hps hA h c).trans ?_
    rw [← Pool.part_succ _ _ (M h)]; rfl

end Cert.KernelIdeal.Steps

end
-- ==== Proof.Blocks.lean ====
/-
  The kernel's blocks as entries of its arguments.
-/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Blocks

open Cert.KernelIdeal Cert.KernelIdeal.Gen

/-- The block index of every input window at every grid point: the features' is the batch and the block of rows, every other
    window's is the origin. -/
theorem idx : ∀ t : Fin cfg0.N, win0_0.index t = ![t.val / 8, t.val % 8, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0] :=
  (by decide +kernel : ∀ t : Fin grid0.N, _)

variable (m : (ℓ : Loc nD τ sig) → Buf (Elt Ideal) ℓ) (c : Dev nD) (t : Fin cfg0.N)

/-- The features' block: 512 rows of one batch. -/
theorem read0 (i : Fin 512) (k : Fin 1024) : iblk m c 0 t (ix3 0 i k) = m ((c : Thread nD τ).loc main_arg1) (ix3 ⟨t.val / 8, by have := t.isLt; have : cfg0.N = 128 := N_0; omega⟩ ⟨512 * (t.val % 8) + i.val, by omega⟩ k) := by
  blk_point [iblk, V, idx t]

/-- The class feature. -/
theorem read1 (k : Fin 1024) : iblk m c 1 t (ix2 0 k) = m ((c : Thread nD τ).loc main_arg0) (ix3 0 0 k) := by
  blk_point [iblk, V, idx t]

/-- The query norm's scale. -/
theorem read2 (k : Fin 1024) : iblk m c 2 t (ix2 0 k) = m ((c : Thread nD τ).loc main_arg2) (ix1 k) := by
  blk_point [iblk, V, idx t]

/-- The query norm's shift. -/
theorem read3 (k : Fin 1024) : iblk m c 3 t (ix2 0 k) = m ((c : Thread nD τ).loc main_arg3) (ix1 k) := by
  blk_point [iblk, V, idx t]

/-- The query weights. -/
theorem read4 (r k : Fin 1024) : iblk m c 4 t (ix2 r k) = m ((c : Thread nD τ).loc main_arg4) (ix2 r k) := by
  blk_point [iblk, V, idx t]

/-- The key weights. -/
theorem read5 (r k : Fin 1024) : iblk m c 5 t (ix2 r k) = m ((c : Thread nD τ).loc main_arg7) (ix2 ⟨r.val, by omega⟩ k) := by
  blk_point [iblk, V, idx t]

/-- The value weights. -/
theorem read6 (r k : Fin 1024) : iblk m c 6 t (ix2 r k) = m ((c : Thread nD τ).loc main_arg7) (ix2 ⟨1024 + r.val, by omega⟩ k) := by
  blk_point [iblk, V, idx t]

/-- The key and value norm's scale. -/
theorem read7 (k : Fin 1024) : iblk m c 7 t (ix2 0 k) = m ((c : Thread nD τ).loc main_arg5) (ix1 k) := by
  blk_point [iblk, V, idx t]

/-- The key and value norm's shift. -/
theorem read8 (k : Fin 1024) : iblk m c 8 t (ix2 0 k) = m ((c : Thread nD τ).loc main_arg6) (ix1 k) := by
  blk_point [iblk, V, idx t]

/-- The projection's weights. -/
theorem read9 (r k : Fin 1024) : iblk m c 9 t (ix2 r k) = m ((c : Thread nD τ).loc main_arg8) (ix2 r k) := by
  blk_point [iblk, V, idx t]

/-- The projection's shift. -/
theorem read10 (k : Fin 1024) : iblk m c 10 t (ix2 0 k) = m ((c : Thread nD τ).loc main_arg9) (ix1 k) := by
  blk_point [iblk, V, idx t]

end Cert.KernelIdeal.Blocks

end
-- ==== Proof.Spec.lean ====
/-
  Both programs' value, over real arguments: the class feature, plus the heads' softmax pooling of the values projected,
  plus the projection's shift.
-/
module

public import proofs.«01_k».proof.Proof.Pool
public import proofs.«01_k».proof.Proof.Words
public import proofs.«01_k».proof.Proof.Norm
public import Idealize.ShloMosaic.Lib.Pointwise

@[expose] public section

noncomputable section

open Idealize.ShloMosaic Idealize.ShloMosaic.TcCoe Idealize.SL.Sem

namespace Cert.Spec

open Cert.Words

/-- The real numbers that the arguments hold, the class feature's layer norm in the place of the class feature. -/
structure Data where
  /-- the class feature's layer norm -/
  y : Fin 1024 → ℝ
  /-- each batch's rows, numbered by the naturals -/
  x : Fin 16 → ℕ → Fin 1024 → ℝ
  /-- the query weights -/
  wq : Fin 1024 → Fin 1024 → ℝ
  /-- the key and value norm's scale -/
  kg : Fin 1024 → ℝ
  /-- the key and value norm's shift -/
  kb : Fin 1024 → ℝ
  /-- the key weights above the value weights -/
  w : Fin 2048 → Fin 1024 → ℝ

/-- The key weights. -/
def Data.wk (D : Data) (r k : Fin 1024) : ℝ := D.w ⟨r.val, by omega⟩ k

/-- The value weights. -/
def Data.wv (D : Data) (r k : Fin 1024) : ℝ := D.w ⟨1024 + r.val, by omega⟩ k

/-- The scaled query: the class feature's layer norm, projected, times 1/32. -/
def Data.q (D : Data) (r : Fin 1024) : ℝ := (∑ k, D.y k * D.wq r k) * (1 / 32)

/-- A head's score of a row of a batch. -/
def Data.l (D : Data) (b : Fin 16) (h : Fin 8) (n : ℕ) : ℝ := Pool.score eps D.kg D.kb D.q D.wk h (D.x b n)

/-- The pooled values of a batch, at a column: its head's softmax weights times the values. -/
def Data.pooled (D : Data) (b : Fin 16) (r : Fin 1024) : ℝ :=
  Pool.agg eps D.kg D.kb (D.x b) (D.l b (Pool.head r)) 0 (D.wv r)

/-- The arguments hold these numbers. -/
structure Holds (D : Data) (a0 : FVec Ideal ⟨3, ![1, 1, 1024]⟩ .f32) (a1 : FVec Ideal ⟨3, ![16, 4096, 1024]⟩ .f32)
    (a2 a3 : FVec Ideal ⟨1, ![1024]⟩ .f32) (a4 : FVec Ideal ⟨2, ![1024, 1024]⟩ .f32) (a5 a6 : FVec Ideal ⟨1, ![1024]⟩ .f32)
    (a7 : FVec Ideal ⟨2, ![2048, 1024]⟩ .f32) : Prop where
  y : ∀ k, Norm.ln (fun k => a2 (ix1 k)) (fun k => a3 (ix1 k)) (fun k => a0 (ix3 0 0 k)) k = (D.y k : EReal)
  x : ∀ b (n : Fin 4096) k, a1 (ix3 b n k) = (D.x b n.val k : EReal)
  wq : ∀ r k, a4 (ix2 r k) = (D.wq r k : EReal)
  kg : ∀ k, a5 (ix1 k) = (D.kg k : EReal)
  kb : ∀ k, a6 (ix1 k) = (D.kb k : EReal)
  w : ∀ r k, a7 (ix2 r k) = (D.w r k : EReal)

/-- Arrays of real numbers hold some, the class feature being free. -/
theorem exists_holds (a0 : FVec Ideal ⟨3, ![1, 1, 1024]⟩ .f32) (a1 : FVec Ideal ⟨3, ![16, 4096, 1024]⟩ .f32)
    (a2 a3 : FVec Ideal ⟨1, ![1024]⟩ .f32) (a4 : FVec Ideal ⟨2, ![1024, 1024]⟩ .f32) (a5 a6 : FVec Ideal ⟨1, ![1024]⟩ .f32)
    (a7 : FVec Ideal ⟨2, ![2048, 1024]⟩ .f32)
    (h1 : ∀ i, a1 i = ((a1 i : EReal).toReal : EReal))
    (h2 : ∀ i, a2 i = ((a2 i : EReal).toReal : EReal)) (h3 : ∀ i, a3 i = ((a3 i : EReal).toReal : EReal))
    (h4 : ∀ i, a4 i = ((a4 i : EReal).toReal : EReal)) (h5 : ∀ i, a5 i = ((a5 i : EReal).toReal : EReal))
    (h6 : ∀ i, a6 i = ((a6 i : EReal).toReal : EReal)) (h7 : ∀ i, a7 i = ((a7 i : EReal).toReal : EReal)) :
    ∃ D, Holds D a0 a1 a2 a3 a4 a5 a6 a7 :=
  let ⟨Y, hY⟩ := Norm.ln_real (fun k => a2 (ix1 k)) (fun k => a3 (ix1 k)) (fun k => a0 (ix3 0 0 k))
    (fun k => (a2 (ix1 k) : EReal).toReal) (fun k => (a3 (ix1 k) : EReal).toReal) (fun k => h2 _) (fun k => h3 _)
  ⟨{ y := Y
     x := fun b n k => if hn : n < 4096 then (a1 (ix3 b ⟨n, hn⟩ k) : EReal).toReal else 0
     wq := fun r k => (a4 (ix2 r k) : EReal).toReal
     kg := fun k => (a5 (ix1 k) : EReal).toReal
     kb := fun k => (a6 (ix1 k) : EReal).toReal
     w := fun r k => (a7 (ix2 r k) : EReal).toReal },
   { y := hY
     x := fun b n k => (h1 _).trans (congrArg (fun r : ℝ => (r : EReal)) (by simp only [n.isLt, dif_pos, Fin.eta]))
     wq := fun r k => h4 _
     kg := fun k => h5 _
     kb := fun k => h6 _
     w := fun r k => h7 _ }⟩

/-- The result at a batch's column `j`. -/
def value (D : Data) (a0 : FVec Ideal ⟨3, ![1, 1, 1024]⟩ .f32) (a8 : FVec Ideal ⟨2, ![1024, 1024]⟩ .f32)
    (a9 : FVec Ideal ⟨1, ![1024]⟩ .f32) (b : Fin 16) (j : Fin 1024) : EReal :=
  a0 (ix3 0 0 j) + (∑ r, (D.pooled b r : EReal) * a8 (ix2 j r)) + a9 (ix1 j)

end Cert.Spec

end
-- ==== Proof.Fold.lean ====
/-
  The kernel's result over real arguments: the sums after each grid point by induction, and the array it leaves.
-/
module

public import proofs.«01_k».proof.Proof.Steps
public import proofs.«01_k».proof.Proof.Blocks
public import proofs.«01_k».proof.Proof.Spec

@[expose] public section

set_option maxRecDepth 16384

noncomputable section

open Idealize.ShloMosaic Idealize.ShloMosaic.TcCoe Idealize.SL.Sem

namespace Cert.KernelIdeal.Fold

open Cert.KernelIdeal Cert.KernelIdeal.Gen Cert.Words Cert.KernelIdeal.Steps Cert.KernelIdeal.Carried Cert.KernelIdeal.Blocks

variable (m : (ℓ : Loc nD τ sig) → Buf (Elt Ideal) ℓ) (c : Dev nD) (D : Spec.Data)

/-- The kernel's arguments hold the numbers `D`. -/
abbrev Args : Prop :=
  Spec.Holds D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

variable {m c D}

/-- A batch's first point prepares the weights. -/
theorem prep_first (H : Args m c D) (t : Fin cfg0.N) (h0 : t.val % 8 = 0) (h1 : ¬t.val % 8 = 7) :
    Prep D.q D.kg D.kb D.wk (outsAt0 m c t.val t.isLt).2.1 (outsAt0 m c t.val t.isLt).2.2.2.2.2.2.1
      (outsAt0 m c t.val t.isLt).2.2.2.2.2.2.2 := by
  have hwl := Pay.wl_at (iblk m c 1 t) (iblk m c 2 t) (iblk m c 3 t) (iblk m c 4 t) (iblk m c 5 t)
    (fun k => by simp only [read1 m c t, read2 m c t, read3 m c t]; exact H.y k)
    (fun r k => (read4 m c t r k).trans (H.wq r k)) (fun r k => (read5 m c t r k).trans (H.w _ k))
  have hwlg := Pay.wlg_at (iblk m c 1 t) (iblk m c 2 t) (iblk m c 3 t) (iblk m c 7 t) (iblk m c 4 t) (iblk m c 5 t) hwl
    (fun k => (read7 m c t k).trans (H.kg k))
  refine ⟨fun h k => (first_w m c t h0 h1 h k).trans (hwlg h k), fun k => (first_one m c t h0 h1 k).trans (Pay.ones_at k),
    fun h => ?_, fun h => ?_⟩
  · rw [first_g0 m c t h0 h1]
    exact Pay.g0_at (iblk m c 8 t) _ _ hwl (fun k => (read8 m c t k).trans (H.kb k)) h
  · rw [first_g1 m c t h0 h1]
    exact Pay.g1_at _ _ hwlg h

/-- The block at a grid point, as rows of its batch. -/
theorem block_rows (H : Args m c D) (t : Fin cfg0.N) (b : Fin 16) (hb : t.val / 8 = b.val) (i : Fin 512) (k : Fin 1024) :
    iblk m c 0 t (ix3 0 i k) = (D.x b (512 * (t.val % 8) + i.val) k : EReal) := by
  refine (read0 m c t i k).trans ((H.x _ _ k).trans ?_)
  simp only [hb]

/-- After each grid point, the weights are the prepared ones and the sums are those of the batch's blocks so far. -/
theorem after (H : Args m c D) (n : ℕ) : ∀ (hn : n < cfg0.N) (b : Fin 16), n / 8 = b.val →
    Prep D.q D.kg D.kb D.wk (outsAt0 m c n hn).2.1 (outsAt0 m c n hn).2.2.2.2.2.2.1 (outsAt0 m c n hn).2.2.2.2.2.2.2
    ∧ Sums (scores D.q D.kg D.kb D.wk (D.x b)) (D.x b) (n % 8 + 1) (outsAt0 m c n hn).2.2.2.1 (outsAt0 m c n hn).2.2.2.2.1
      (outsAt0 m c n hn).2.2.2.2.2.1 (outsAt0 m c n hn).2.2.1 := by
  induction n using Nat.strong_induction_on with
  | _ n ih =>
    intro hn b hb
    by_cases h0 : n % 8 = 0
    · have h1 : ¬n % 8 = 7 := by omega
      have hp := prep_first H ⟨n, hn⟩ h0 h1
      refine ⟨hp, ?_⟩
      have hs := sums_succ (iblk m c 0 ⟨n, hn⟩) (D.x b) (n % 8) hp (by rw [h0]; exact sums_zero _ _)
        (block_rows H ⟨n, hn⟩ b hb)
      rw [first_g0 m c ⟨n, hn⟩ h0 h1, first_g1 m c ⟨n, hn⟩ h0 h1, ← first_m m c ⟨n, hn⟩ h0 h1, ← first_d m c ⟨n, hn⟩ h0 h1,
        ← first_t m c ⟨n, hn⟩ h0 h1, ← first_acc m c ⟨n, hn⟩ h0 h1] at hs
      exact hs
    · obtain ⟨hp, hs⟩ := ih (n - 1) (by omega) (by omega) b (by omega)
      rw [show (n - 1) % 8 + 1 = n % 8 by omega] at hs
      refine ⟨?_, ?_⟩
      · rw [later_w m c ⟨n, hn⟩ h0, later_g0 m c ⟨n, hn⟩ h0, later_g1 m c ⟨n, hn⟩ h0]
        exact hp
      · rw [later_m m c ⟨n, hn⟩ h0, later_d m c ⟨n, hn⟩ h0, later_t m c ⟨n, hn⟩ h0, later_acc m c ⟨n, hn⟩ h0]
        exact sums_succ (iblk m c 0 ⟨n, hn⟩) (D.x b) (n % 8) hp hs (block_rows H ⟨n, hn⟩ b hb)

/-- What a batch's last point writes. -/
theorem last (H : Args m c D) (t : Fin cfg0.N) (b : Fin 16) (hb : t.val / 8 = b.val) (h1 : t.val % 8 = 7) (j : Fin 1024) :
    (outsAt0 m c t.val t.isLt).1 (ix3 0 0 j)
      = Spec.value D (m ((c : Thread nD τ).loc main_arg0)) (m ((c : Thread nD τ).loc main_arg8)) (m ((c : Thread nD τ).loc main_arg9)) b j := by
  obtain ⟨hp, M, hM, hD, hT, hA⟩ := after H t.val t.isLt b hb
  rw [h1] at hD hT hA
  have hD0 : ∀ h, Pool.part (scores D.q D.kg D.kb D.wk (D.x b) h) (fun _ => 1) (M h) 8 ≠ 0 := fun h => by
    rw [Pool.part_all]; simp only [mul_one]; exact (Pool.den_pos _ _).ne'
  rw [last_out m c t (by omega) h1]
  refine (Pay.out_at _ _ _ _ _ _ _ _ _ hD hD0 hT hA (fun k => (read7 m c t k).trans (H.kg k))
    (fun k => (read8 m c t k).trans (H.kb k)) (fun r k => (read6 m c t r k).trans (H.w _ k)) j).trans ?_
  rw [Spec.value, read1 m c t j, read10 m c t j]
  refine congrArg₂ (· + ·) (congrArg₂ (· + ·) rfl (Finset.sum_congr rfl fun r _ => ?_)) rfl
  rw [read9 m c t j r]
  refine congrArg₂ (· * ·) (congrArg _ ?_) rfl
  exact Pool.agg_eq eps D.kg D.kb (D.x b) (D.l b (Pool.head r)) (M (Pool.head r)) 0 (D.wv r)

/-- The array that the kernel leaves. -/
theorem array (H : Args m c D) (b : Fin 16) (j : Fin 1024) :
    Value.G11 m c (ix3 b 0 j)
      = Spec.value D (m ((c : Thread nD τ).loc main_arg0)) (m ((c : Thread nD τ).loc main_arg8)) (m ((c : Thread nD τ).loc main_arg9)) b j := by
  have hN : cfg0.N = 128 := N_0
  have hp : Value.pt11Of (ix3 b 0 j) = 8 * b.val + 7 := by
    show 8 * (1 * (b.val / 1 - 0) + 1 * (0 / 1 - 0) + 1 * (j.val / 1024 - 0)) + 7 = _
    omega
  have hl : Value.loc11Of (ix3 b 0 j) = ix3 0 0 j := by
    funext a
    refine Fin.cases (Subsingleton.elim (α := Fin 1) _ _) (fun a => Fin.cases (Subsingleton.elim (α := Fin 1) _ _) (fun a => ?_) a) a
    rw [Subsingleton.elim a 0]
    exact Fin.ext (Nat.mod_eq_of_lt j.isLt)
  have h : Value.pt11Of (ix3 b 0 j) < cfg0.N := by rw [hp]; omega
  unfold Value.G11
  rw [dif_pos h, ← Value.outsAt0_sweep m c _ h, hl]
  exact last H ⟨Value.pt11Of (ix3 b 0 j), h⟩ b (by show Value.pt11Of (ix3 b 0 j) / 8 = b.val; omega)
    (by show Value.pt11Of (ix3 b 0 j) % 8 = 7; omega) j

end Cert.KernelIdeal.Fold

end
-- ==== Proof.Stages.lean ====
/-
  The reference's operations, stage by stage: the query, the normalized rows, the keys and values, the scores, their
  softmax, the pooled values and the result.
-/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Stages

open Cert.ReferenceIdeal Cert.ReferenceIdeal.Gen

/-! ## The class feature's layer norm and the query -/

/-- The class feature for every batch. -/
def cls (a0 : FVec Ideal S1x1x1024 .f32) : FVec Ideal S16x1x1024 .f32 :=
  broadcastInDim S16x1x1024 ![0, 1, 2] bcast_S1x1x1024_S16x1x1024_0_1_2 a0

/-- Rows minus their means. -/
def centerQ (x : FVec Ideal S16x1x1024 .f32) : FVec Ideal S16x1x1024 .f32 :=
  subf x (broadcastInDim S16x1x1024 ![0, 1, 2] bcast_S16x1x1_S16x1x1024_0_1_2 (Host.divf (broadcastInDim S16x1x1 ![0, 1] bcast_S16x1_S16x1x1_0_1 (Host.reduceAdd x (constant S_ .f32 0x00000000#32) reducesTo_S16x1x1024_S16x1_d2 h_S_)) (broadcastInDim S16x1x1 ![] bcast_S_S16x1x1 (constant S_ .f32 0x44800000#32))))

/-- The reciprocal root of each row's variance, from the centred rows. -/
def scaleQ (y : FVec Ideal S16x1x1024 .f32) : FVec Ideal S16x1x1 .f32 :=
  Host.rsqrt (addf (Host.divf (broadcastInDim S16x1x1 ![0, 1] bcast_S16x1_S16x1x1_0_1 (Host.reduceAdd (mulf y y) (constant S_ .f32 0x00000000#32) reducesTo_S16x1x1024_S16x1_d2 h_S_)) (broadcastInDim S16x1x1 ![] bcast_S_S16x1x1 (constant S_ .f32 0x44800000#32))) (broadcastInDim S16x1x1 ![] bcast_S_S16x1x1 (constant S_ .f32 0x3727C5AC#32)))

/-- The layer norm. -/
def normQ (y : FVec Ideal S16x1x1024 .f32) (g b : FVec Ideal S1024 .f32) : FVec Ideal S16x1x1024 .f32 :=
  addf (mulf (mulf y (broadcastInDim S16x1x1024 ![0, 1, 2] bcast_S16x1x1_S16x1x1024_0_1_2 (scaleQ y))) (broadcastInDim S16x1x1024 ![0, 1, 2] bcast_S1x1x1024_S16x1x1024_0_1_2 (broadcastInDim S1x1x1024 ![2] bcast_S1024_S1x1x1024_2 g))) (broadcastInDim S16x1x1024 ![0, 1, 2] bcast_S1x1x1024_S16x1x1024_0_1_2 (broadcastInDim S1x1x1024 ![2] bcast_S1024_S1x1x1024_2 b))

/-- The scaled query, per head. -/
def query (y : FVec Ideal S16x1x1024 .f32) (w : FVec Ideal S1024x1024 .f32) : FVec Ideal S16x8x128 .f32 :=
  mulf (shapeCast _ (Host.dotGeneral dot_S16x1x1024_S1024x1024_S16x1x1024_2_0_01_1_n_n none y (transpose S1024x1024 [1, 0] w transposes_S1024x1024_S1024x1024_1_0)) shapeCasts_S16x1x1024_S16x8x128) (broadcastInDim S16x8x128 ![] bcast_S_S16x8x128 (constant S_ .f32 0x3D000000#32))

/-! ## The rows' layer norm, the keys and the values -/

/-- Rows minus their means. -/
def centerX (x : FVec Ideal S16x4096x1024 .f32) : FVec Ideal S16x4096x1024 .f32 :=
  subf x (broadcastInDim S16x4096x1024 ![0, 1, 2] bcast_S16x4096x1_S16x4096x1024_0_1_2 (Host.divf (broadcastInDim S16x4096x1 ![0, 1] bcast_S16x4096_S16x4096x1_0_1 (Host.reduceAdd x (constant S_ .f32 0x00000000#32) reducesTo_S16x4096x1024_S16x4096_d2 h_S_)) (broadcastInDim S16x4096x1 ![] bcast_S_S16x4096x1 (constant S_ .f32 0x44800000#32))))

/-- The reciprocal root of each row's variance, from the centred rows. -/
def scaleX (y : FVec Ideal S16x4096x1024 .f32) : FVec Ideal S16x4096x1 .f32 :=
  Host.rsqrt (addf (Host.divf (broadcastInDim S16x4096x1 ![0, 1] bcast_S16x4096_S16x4096x1_0_1 (Host.reduceAdd (mulf y y) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x3727C5AC#32)))

/-- The layer norm. -/
def normX (y : FVec Ideal S16x4096x1024 .f32) (g b : FVec Ideal S1024 .f32) : FVec Ideal S16x4096x1024 .f32 :=
  addf (mulf (mulf y (broadcastInDim S16x4096x1024 ![0, 1, 2] bcast_S16x4096x1_S16x4096x1024_0_1_2 (scaleX y))) (broadcastInDim S16x4096x1024 ![0, 1, 2] bcast_S1x1x1024_S16x4096x1024_0_1_2 (broadcastInDim S1x1x1024 ![2] bcast_S1024_S1x1x1024_2 g))) (broadcastInDim S16x4096x1024 ![0, 1, 2] bcast_S1x1x1024_S16x4096x1024_0_1_2 (broadcastInDim S1x1x1024 ![2] bcast_S1024_S1x1x1024_2 b))

/-- The keys and values together. -/
def both (y : FVec Ideal S16x4096x1024 .f32) (w : FVec Ideal S2048x1024 .f32) : FVec Ideal S16x4096x2x8x128 .f32 :=
  shapeCast _ (Host.dotGeneral dot_S16x4096x1024_S1024x2048_S16x4096x2048_2_0_01_1_n_n none y (transpose S1024x2048 [1, 0] w transposes_S2048x1024_S1024x2048_1_0)) shapeCasts_S16x4096x2048_S16x4096x2x8x128

/-- The keys. -/
def keys (kv : FVec Ideal S16x4096x2x8x128 .f32) : FVec Ideal S16x4096x8x128 .f32 :=
  shapeCast _ (extractStridedSlice S16x4096x1x8x128 ![0, 0, 0, 0, 0] kv slices_S16x4096x2x8x128_S16x4096x1x8x128_0_0_0_0_0) shapeCasts_S16x4096x1x8x128_S16x4096x8x128

/-- The values. -/
def vals (kv : FVec Ideal S16x4096x2x8x128 .f32) : FVec Ideal S16x4096x8x128 .f32 :=
  shapeCast _ (extractStridedSlice S16x4096x1x8x128 ![0, 0, 1, 0, 0] kv slices_S16x4096x2x8x128_S16x4096x1x8x128_0_0_1_0_0) shapeCasts_S16x4096x1x8x128_S16x4096x8x128

/-! ## The attention -/

/-- The scores. -/
def scores (q : FVec Ideal S16x8x128 .f32) (k : FVec Ideal S16x4096x8x128 .f32) : FVec Ideal S16x8x4096 .f32 :=
  Host.dotGeneral dot_S16x8x128_S16x4096x8x128_S16x8x4096_2_3_n_1_01_02 none q k

/-- The scores' maxima. -/
def maxes (l : FVec Ideal S16x8x4096 .f32) : FVec Ideal S16x8 .f32 :=
  maximumf (broadcastInDim S16x8 ![] bcast_S_S16x8 (constant S_ .f32 0xFF800000#32)) (Host.reduce FloatOps.maximumf l (constant S_ .f32 0xFF800000#32) reducesTo_S16x8x4096_S16x8_d2 h_S_)

/-- The exponentials of the scores minus their maxima. -/
def expo (l : FVec Ideal S16x8x4096 .f32) (s : FVec Ideal S16x8 .f32) : FVec Ideal S16x8x4096 .f32 :=
  Host.exp (subf l (broadcastInDim S16x8x4096 ![0, 1, 2] bcast_S16x8x1_S16x8x4096_0_1_2 (broadcastInDim S16x8x1 ![0, 1] bcast_S16x8_S16x8x1_0_1 s)))

/-- The softmax weights, from the exponentials. -/
def weights (p : FVec Ideal S16x8x4096 .f32) : FVec Ideal S16x8x4096 .f32 :=
  Host.divf p (broadcastInDim S16x8x4096 ![0, 1, 2] bcast_S16x8x1_S16x8x4096_0_1_2 (broadcastInDim S16x8x1 ![0, 1] bcast_S16x8_S16x8x1_0_1 (Host.reduceAdd p (constant S_ .f32 0x00000000#32) reducesTo_S16x8x4096_S16x8_d2 h_S_)))

/-- The pooled values. -/
def pooled (w : FVec Ideal S16x8x4096 .f32) (v : FVec Ideal S16x4096x8x128 .f32) : FVec Ideal S16x8x128 .f32 :=
  Host.dotGeneral dot_S16x8x4096_S16x4096x8x128_S16x8x128_2_1_n_3_01_02 none w v

/-- The result. -/
def out (a0 : FVec Ideal S1x1x1024 .f32) (p : FVec Ideal S16x8x128 .f32) (a8 : FVec Ideal S1024x1024 .f32) (a9 : FVec Ideal S1024 .f32) : FVec Ideal S16x1x1024 .f32 :=
  addf (addf (cls a0) (Host.dotGeneral dot_S16x1x1024_S1024x1024_S16x1x1024_2_0_01_1_n_n none (shapeCast _ p shapeCasts_S16x8x128_S16x1x1024) (transpose S1024x1024 [1, 0] a8 transposes_S1024x1024_S1024x1024_1_0))) (broadcastInDim S16x1x1024 ![0, 1, 2] bcast_S1x1x1024_S16x1x1024_0_1_2 (broadcastInDim S1x1x1024 ![2] bcast_S1024_S1x1x1024_2 a9))

variable (m : (ℓ : Loc nD τ sig) → Buf (Elt Ideal) ℓ) (c : Dev nD)

/-- The scores of the reference's arguments. -/
def attn : FVec Ideal S16x8x4096 .f32 :=
  scores (query (normQ (centerQ (cls (m ((c.tc : Thread nD τ).loc main_arg0)))) (m ((c.tc : Thread nD τ).loc main_arg2)) (m ((c.tc : Thread nD τ).loc main_arg3))) (m ((c.tc : Thread nD τ).loc main_arg4)))
    (keys (both (normX (centerX (m ((c.tc : Thread nD τ).loc main_arg1))) (m ((c.tc : Thread nD τ).loc main_arg5)) (m ((c.tc : Thread nD τ).loc main_arg6))) (m ((c.tc : Thread nD τ).loc main_arg7))))

/-- The reference's result is the stages in turn. -/
theorem res_eq : Cert.ReferenceIdeal.Value.res_main_v80 (F := Ideal) m c
    = out (m ((c.tc : Thread nD τ).loc main_arg0))
        (pooled (weights (expo (attn m c) (maxes (attn m c))))
          (vals (both (normX (centerX (m ((c.tc : Thread nD τ).loc main_arg1))) (m ((c.tc : Thread nD τ).loc main_arg5)) (m ((c.tc : Thread nD τ).loc main_arg6))) (m ((c.tc : Thread nD τ).loc main_arg7)))))
        (m ((c.tc : Thread nD τ).loc main_arg8)) (m ((c.tc : Thread nD τ).loc main_arg9)) := rfl

end Cert.ReferenceIdeal.Stages

end
-- ==== Proof.Ref.lean ====
/-
  The reference's stages at an index, over real arguments, and its result.
-/
module

public import proofs.«01_k».proof.Proof.Stages
public import proofs.«01_k».proof.Proof.Spec

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen Cert.ReferenceIdeal.Stages Cert.Words

/-! ## The query -/

theorem cls_at (a0 : FVec Ideal S1x1x1024 .f32) (b : Fin 16) (k : Fin 1024) : cls a0 (ix3 b 0 k) = a0 (ix3 0 0 k) := by
  pointwise [cls]

/-- The class feature's layer norm. -/
theorem normQ_at (a0 : FVec Ideal S1x1x1024 .f32) (g s : FVec Ideal S1024 .f32) (b : Fin 16) (k : Fin 1024) :
    normQ (centerQ (cls a0)) g s (ix3 b 0 k)
      = Norm.ln (fun k => g (ix1 k)) (fun k => s (ix1 k)) (fun k => a0 (ix3 0 0 k)) k := by
  have hc : ∀ k, centerQ (cls a0) (ix3 b 0 k) = a0 (ix3 0 0 k) - Norm.mean (fun k => a0 (ix3 0 0 k)) := fun k => by
    pointwise [centerQ]
    simp only [cls_at, w1024]
    rfl
  have hs : scaleQ (centerQ (cls a0)) (ix3 b 0 0) = Norm.scale (fun k => a0 (ix3 0 0 k) - Norm.mean (fun k => a0 (ix3 0 0 k))) := by
    pointwise [scaleQ]
    simp only [hc, w1024, wEps]
    rfl
  pointwise [normQ]
  rw [hc, hs]
  rfl

theorem query_at (y : FVec Ideal S16x1x1024 .f32) (w : FVec Ideal S1024x1024 .f32) (Y : Fin 1024 → ℝ) (W : Fin 1024 → Fin 1024 → ℝ)
    (hy : ∀ b k, y (ix3 b 0 k) = (Y k : EReal)) (hw : ∀ r k, w (ix2 r k) = (W r k : EReal)) (b : Fin 16) (h : Fin 8) (d : Fin 128) :
    query y w (ix3 b h d) = (((∑ k, Y k * W (Pool.col h d) k) * (1 / 32) : ℝ) : EReal) := by
  pointwise [query]
  simp only [hy, hw, wScale, ← EReal.coe_mul, coe_sum]
  rfl

/-! ## The keys and values -/

theorem centerX_at (x : FVec Ideal S16x4096x1024 .f32) (X : Fin 16 → ℕ → Fin 1024 → ℝ)
    (hx : ∀ b (n : Fin 4096) k, x (ix3 b n k) = (X b n.val k : EReal)) (b : Fin 16) (n : Fin 4096)
    (k : Fin 1024) : centerX x (ix3 b n k) = ((X b n.val k - Pool.mean (X b n.val) : ℝ) : EReal) := by
  pointwise [centerX]
  simp only [hx, coe_sum, w1024, coe_div (show (1024 : ℝ) ≠ 0 by norm_num), ← EReal.coe_sub]
  rfl

theorem scaleX_at (y : FVec Ideal S16x4096x1024 .f32) (X : Fin 16 → ℕ → Fin 1024 → ℝ)
    (hy : ∀ b (n : Fin 4096) k, y (ix3 b n k) = ((X b n.val k - Pool.mean (X b n.val) : ℝ) : EReal))
    (b : Fin 16) (n : Fin 4096) : scaleX y (ix3 b n 0) = ((Pool.inv eps (X b n.val) : ℝ) : EReal) := by
  have hv : 0 < Pool.var (X b n.val) + eps := add_pos_of_nonneg_of_pos (Pool.var_nonneg _) eps_pos
  pointwise [scaleX]
  simp only [hy, coe_sum, w1024, wEps, coe_div (show (1024 : ℝ) ≠ 0 by norm_num), ← EReal.coe_mul, ← EReal.coe_add,
    Pool.var_def (X b n.val), coe_rsqrt hv]
  rfl

theorem normX_at (y : FVec Ideal S16x4096x1024 .f32) (g s : FVec Ideal S1024 .f32) (X : Fin 16 → ℕ → Fin 1024 → ℝ) (G S : Fin 1024 → ℝ)
    (hy : ∀ b (n : Fin 4096) k, y (ix3 b n k) = ((X b n.val k - Pool.mean (X b n.val) : ℝ) : EReal))
    (hg : ∀ k, g (ix1 k) = (G k : EReal)) (hs : ∀ k, s (ix1 k) = (S k : EReal))
    (b : Fin 16) (n : Fin 4096) (k : Fin 1024) : normX y g s (ix3 b n k) = ((Pool.ln eps G S (X b n.val) k : ℝ) : EReal) := by
  pointwise [normX]
  simp only [hy, hg, hs, scaleX_at y X hy, ← EReal.coe_mul, ← EReal.coe_add]
  rfl

theorem keys_at (y : FVec Ideal S16x4096x1024 .f32) (w : FVec Ideal S2048x1024 .f32) (b : Fin 16) (n : Fin 4096) (h : Fin 8) (d : Fin 128) :
    keys (both y w) (ix4 b n h d) = ∑ k, y (ix3 b n k) * w (ix2 ⟨(Pool.col h d).val, by omega⟩ k) := by
  pointwise [keys, both]
  rfl

theorem vals_at (y : FVec Ideal S16x4096x1024 .f32) (w : FVec Ideal S2048x1024 .f32) (b : Fin 16) (n : Fin 4096) (h : Fin 8) (d : Fin 128) :
    vals (both y w) (ix4 b n h d) = ∑ k, y (ix3 b n k) * w (ix2 ⟨1024 + (Pool.col h d).val, by omega⟩ k) := by
  pointwise [vals, both]
  simp only [Pool.col, ← Nat.add_assoc]

/-! ## The attention -/

theorem scores_at (q : FVec Ideal S16x8x128 .f32) (k : FVec Ideal S16x4096x8x128 .f32) (b : Fin 16) (h : Fin 8) (n : Fin 4096) :
    scores q k (ix3 b h n) = ∑ d, q (ix3 b h d) * k (ix4 b n h d) := by
  pointwise [scores]

theorem maxes_at (l : FVec Ideal S16x8x4096 .f32) (L : Fin 16 → Fin 8 → ℕ → ℝ) (hl : ∀ b h (n : Fin 4096), l (ix3 b h n) = (L b h n.val : EReal)) :
    ∃ s : Fin 16 → Fin 8 → ℝ, ∀ b h, maxes l (ix2 b h) = (s b h : EReal) := by
  have hh : ∀ b h, ∃ r : ℝ, maxes l (ix2 b h) = (r : EReal) := fun b h => by
    pointwise [maxes]
    simp only [hl, wBot, bot_sup_eq]
    exact fold_real Finset.univ (fun n : Fin 4096 => L b h n.val) 0 (Finset.mem_univ _)
  exact ⟨fun b h => (hh b h).choose, fun b h => (hh b h).choose_spec⟩

theorem expo_at (l : FVec Ideal S16x8x4096 .f32) (s : FVec Ideal S16x8 .f32) (L : Fin 16 → Fin 8 → ℕ → ℝ) (M : Fin 16 → Fin 8 → ℝ)
    (hl : ∀ b h (n : Fin 4096), l (ix3 b h n) = (L b h n.val : EReal)) (hs : ∀ b h, s (ix2 b h) = (M b h : EReal))
    (b : Fin 16) (h : Fin 8) (n : Fin 4096) : expo l s (ix3 b h n) = ((Real.exp (L b h n.val - M b h) : ℝ) : EReal) := by
  pointwise [expo]
  rw [hl, hs, ← EReal.coe_sub, Ideal.exp_coe]

theorem weights_at (p : FVec Ideal S16x8x4096 .f32) (L : Fin 16 → Fin 8 → ℕ → ℝ) (M : Fin 16 → Fin 8 → ℝ)
    (hp : ∀ b h (n : Fin 4096), p (ix3 b h n) = ((Real.exp (L b h n.val - M b h) : ℝ) : EReal)) (b : Fin 16) (h : Fin 8) (n : Fin 4096) :
    weights p (ix3 b h n) = ((Pool.weight (L b h) (M b h) n : ℝ) : EReal) := by
  pointwise [weights]
  simp only [hp, coe_sum]
  rw [coe_div (Pool.den_pos _ _).ne']
  rfl

theorem pooled_at (w : FVec Ideal S16x8x4096 .f32) (v : FVec Ideal S16x4096x8x128 .f32) (b : Fin 16) (h : Fin 8) (d : Fin 128) :
    pooled w v (ix3 b h d) = ∑ n, w (ix3 b h n) * v (ix4 b n h d) := by
  pointwise [pooled]

theorem out_at (a0 : FVec Ideal S1x1x1024 .f32) (p : FVec Ideal S16x8x128 .f32) (a8 : FVec Ideal S1024x1024 .f32) (a9 : FVec Ideal S1024 .f32)
    (b : Fin 16) (j : Fin 1024) : out a0 p a8 a9 (ix3 b 0 j)
      = a0 (ix3 0 0 j) + (∑ r : Fin 1024, p (ix3 b (Pool.head r) ⟨r.val % 128, by omega⟩) * a8 (ix2 j r)) + a9 (ix1 j) := by
  pointwise [out]
  rw [cls_at]
  rfl

/-! ## The result -/

section result
variable (m : (ℓ : Loc nD τ sig) → Buf (Elt Ideal) ℓ) (c : Dev nD) (D : Spec.Data)

/-- The reference's arguments hold the numbers `D`. -/
abbrev Args : Prop :=
  Spec.Holds D (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

variable {m c D}

/-- The normalized rows. -/
theorem rows_at (H : Args m c D) (b : Fin 16) (n : Fin 4096) (k : Fin 1024) :
    normX (centerX (m ((c.tc : Thread nD τ).loc main_arg1))) (m ((c.tc : Thread nD τ).loc main_arg5)) (m ((c.tc : Thread nD τ).loc main_arg6)) (ix3 b n k)
      = ((Pool.ln eps D.kg D.kb (D.x b n.val) k : ℝ) : EReal) :=
  normX_at _ _ _ D.x D.kg D.kb (centerX_at _ D.x H.x) H.kg H.kb b n k

/-- The scores. -/
theorem attn_at (H : Args m c D) (b : Fin 16) (h : Fin 8) (n : Fin 4096) : attn m c (ix3 b h n) = ((D.l b h n.val : ℝ) : EReal) := by
  have hq := query_at _ _ D.y D.wq (fun b k => (normQ_at (m ((c.tc : Thread nD τ).loc main_arg0)) (m ((c.tc : Thread nD τ).loc main_arg2))
    (m ((c.tc : Thread nD τ).loc main_arg3)) b k).trans (H.y k)) H.wq
  rw [attn, scores_at]
  simp only [hq, keys_at, rows_at H, H.w, ← EReal.coe_mul, coe_sum]
  rfl

/-- The column `r` is its head's column at place `r % 128`. -/
theorem col_head (r : Fin 1024) : Pool.col (Pool.head r) ⟨r.val % 128, by omega⟩ = r :=
  Fin.ext (show r.val / 128 * 128 + r.val % 128 = r.val by omega)

/-- The reference's result. -/
theorem array (H : Args m c D) (b : Fin 16) (j : Fin 1024) :
    Cert.ReferenceIdeal.Value.res_main_v80 (F := Ideal) m c (ix3 b 0 j)
      = Spec.value D (m ((c.tc : Thread nD τ).loc main_arg0)) (m ((c.tc : Thread nD τ).loc main_arg8)) (m ((c.tc : Thread nD τ).loc main_arg9)) b j := by
  obtain ⟨s, hs⟩ := maxes_at (attn m c) D.l (attn_at H)
  have hw := weights_at _ D.l s (expo_at (attn m c) _ D.l s (attn_at H) hs)
  rw [res_eq, out_at, Spec.value]
  refine congrArg₂ (· + ·) (congrArg₂ (· + ·) rfl (Finset.sum_congr rfl fun r _ => congrArg₂ (· * ·) ?_ rfl)) rfl
  rw [pooled_at]
  simp only [hw, vals_at, rows_at H, col_head, H.w, ← EReal.coe_mul, coe_sum]
  refine congrArg (fun x : ℝ => (x : EReal)) ?_
  rw [Spec.Data.pooled, Pool.agg]
  exact Finset.sum_congr rfl fun n _ => congrArg₂ (· * ·) (Pool.weight_shift _ _ _ n) rfl

end result

end Cert.ReferenceIdeal.Ref

end
-- ==== Proof.Finite.lean ====
/-
  What the precondition says: every entry of the seven arrays it reads is a real number.
-/
module

public import proofs.«01_k».proof.Proof.Gen.Pre_finite
public import proofs.«01_k».proof.Proof.Spec
public import Idealize.ShloMosaic.Lib.ReduceAll

@[expose] public section

set_option maxRecDepth 16384

noncomputable section

open Idealize.ShloMosaic Idealize.ShloMosaic.TcCoe Idealize.SL.Sem

namespace Cert.Finite

open Cert.Pre_finite Cert.Words

/-- An array whose absolute values are all below infinity has real entries. -/
theorem real_entries {s : Shape} {axes : List (Fin s.rank)} (x : FVec Ideal s .f32) (hb) (h : s.ReducesTo axes S_) (hu) (j : S_.Idx)
    (e : Host.reduce IntOp.andi (cmpf (F := Ideal) .olt (Host.absf x) (broadcastInDim s ![] hb (constant S_ .f32 0x7F800000#32)))
      (constantI S_ 1 1#1) h hu j = 1#1) (i : s.Idx) : x i = ((x i : EReal).toReal : EReal) := by
  haveI : Subsingleton S_.Idx := ⟨fun a b => funext fun k => k.elim0⟩
  have e' := Host.reduce_andi_all _ _ h hu j e i
  change BitVec.ofBool (decide (max (x i : EReal) (-(x i : EReal)) < Ideal.ofBits .f32 0x7F800000#32)) = 1#1 at e'
  rw [wTop] at e'
  refine real_of_abs_lt ?_
  by_contra hc
  rw [decide_eq_false hc] at e'
  exact absurd e' (by decide)

/-- A conjunction of two bits is one only if both are. -/
theorem and_one {a b : BitVec 1} (h : a &&& b = 1#1) : a = 1#1 ∧ b = 1#1 := by
  revert a b; decide

/-- Under the precondition the seven arrays hold real numbers; of the class feature nothing is asked. -/
theorem holds [Cert.Pre_finite.Facts] (a0 : FVec Ideal S1x1x1024 .f32) (a1 : FVec Ideal S16x4096x1024 .f32) (a2 a3 : FVec Ideal S1024 .f32)
    (a4 : FVec Ideal S1024x1024 .f32) (a5 a6 : FVec Ideal S1024 .f32) (a7 : FVec Ideal S2048x1024 .f32)
    (a8 : FVec Ideal S1024x1024 .f32) (a9 : FVec Ideal S1024 .f32)
    (h : Cert.Pre_finite.fn (F := Ideal) a0 a1 a2 a3 a4 a5 a6 a7 a8 a9 = fun _ => 1#1) :
    ∃ D, Spec.Holds D a0 a1 a2 a3 a4 a5 a6 a7 := by
  have e := congrFun h (fun k => k.elim0)
  obtain ⟨e, e7⟩ := and_one e
  obtain ⟨e, e6⟩ := and_one e
  obtain ⟨e, e5⟩ := and_one e
  obtain ⟨e, e4⟩ := and_one e
  obtain ⟨e, e3⟩ := and_one e
  obtain ⟨e, e2⟩ := and_one e
  obtain ⟨_, e1⟩ := and_one e
  exact Spec.exists_holds a0 a1 a2 a3 a4 a5 a6 a7
    (real_entries a1 Facts.bcast_S_S16x4096x1024 Facts.reducesTo_S16x4096x1024_S_d0_1_2 Facts.h_S_ _ e1)
    (real_entries a2 Facts.bcast_S_S1024 Facts.reducesTo_S1024_S_d0 Facts.h_S_ _ e2)
    (real_entries a3 Facts.bcast_S_S1024 Facts.reducesTo_S1024_S_d0 Facts.h_S_ _ e3)
    (real_entries a4 Facts.bcast_S_S1024x1024 Facts.reducesTo_S1024x1024_S_d0_1 Facts.h_S_ _ e4)
    (real_entries a5 Facts.bcast_S_S1024 Facts.reducesTo_S1024_S_d0 Facts.h_S_ _ e5)
    (real_entries a6 Facts.bcast_S_S1024 Facts.reducesTo_S1024_S_d0 Facts.h_S_ _ e6)
    (real_entries a7 Facts.bcast_S_S2048x1024 Facts.reducesTo_S2048x1024_S_d0_1 Facts.h_S_ _ e7)

end Cert.Finite

end
-- ==== Proof.lean ====
/-
  The five claims. The three frames are the generated frames of the two kernels and the reference's generated run. The two
  kernels are one program. The algebraic claim puts the kernel's array (Proof/Fold.lean) and the reference's result
  (Proof/Ref.lean) side by side: under the precondition both arguments hold the same real numbers (Proof/Finite.lean), and
  both results are the one function of them stated in Proof/Spec.lean.
-/
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Fold
public import proofs.«01_k».proof.Proof.Ref
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments and ends with its counters at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem quiescent_ReferenceIdeal_pre_finite : quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On real arguments the kernel's array is the reference's result. -/
theorem algebraic_KernelIdeal_ReferenceIdeal_pre_finite : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ?_
  obtain ⟨e0, e1, e2, e3, e4, e5, e6, e7, e8, e9⟩ := hagree c
  obtain ⟨D, H⟩ := Cert.Finite.holds _ _ _ _ _ _ _ _ _ _ (hpre c)
  have H' : Cert.ReferenceIdeal.Ref.Args m' c D := by
    unfold Cert.ReferenceIdeal.Ref.Args
    rw [e0, e1, e2, e3, e4, e5, e6, e7]
    exact H
  funext i
  obtain ⟨b, j, rfl⟩ : ∃ (b : Fin 16) (j : Fin 1024), i = ix3 b 0 j := by
    refine ⟨i 0, i 2, ?_⟩
    idx_vars i
    rw [Subsingleton.elim i1 0]
  refine (Cert.ReferenceIdeal.Ref.array H' b j).trans ?_
  rw [e0, e8, e9]
  exact (Cert.KernelIdeal.Fold.array H b j).symm

/-- Every claim. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_finite, (trivial : preserves_Kernel_KernelIdeal),
  algebraic_KernelIdeal_ReferenceIdeal_pre_finite⟩

end Cert.Proof

end
